-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S8x512x4096 : Shape := ⟨3, ![8, 512, 4096]⟩
abbrev S512x4 : Shape := ⟨2, ![512, 4]⟩
abbrev S4 : Shape := ⟨1, ![4]⟩
abbrev S4x512 : Shape := ⟨2, ![4, 512]⟩
abbrev S512 : Shape := ⟨1, ![512]⟩
abbrev S_ : Shape := ⟨0, ![]⟩

class Facts : Prop where
  bcast_S_S4 : S_.BroadcastsInDim S4 (![] : Fin 0 → Fin S4.rank)
  bcast_S_S512 : S_.BroadcastsInDim S512 (![] : Fin 0 → Fin S512.rank)

variable [Facts]

def fn {F : FTy → Type} [FloatOps F] (main_arg0 : FVec F S8x512x4096 .f32) (main_arg1 : FVec F S512x4 .f32) (main_arg2 : FVec F S4 .f32) (main_arg3 : FVec F S4x512 .f32) (main_arg4 : FVec F S512 .f32) : IVec S4 1 × IVec S512 1 :=
  let main_cst : FVec F S_ .f32 := constant S_ .f32 0x00000000#32
  let main_v0 : FVec F S4 .f32 := broadcastInDim S4 ![] bcast_S_S4 main_cst
  let main_v1 : IVec S4 1 := cmpf .oeq main_arg2 main_v0
  let main_cst_0 : FVec F S_ .f32 := constant S_ .f32 0x00000000#32
  let main_v2 : FVec F S512 .f32 := broadcastInDim S512 ![] bcast_S_S512 main_cst_0
  let main_v3 : IVec S512 1 := cmpf .oeq main_arg4 main_v2
  (main_v1, main_v3)
-- ==== Kernel.lean ====
abbrev S8x512x4096 : Shape := ⟨3, ![8, 512, 4096]⟩
abbrev S512x4 : Shape := ⟨2, ![512, 4]⟩
abbrev S4 : Shape := ⟨1, ![4]⟩
abbrev S4x512 : Shape := ⟨2, ![4, 512]⟩
abbrev S512 : Shape := ⟨1, ![512]⟩
abbrev S4x6 : Shape := ⟨2, ![4, 6]⟩
abbrev S8x2x4096 : Shape := ⟨3, ![8, 2, 4096]⟩
abbrev S1x512x4096 : Shape := ⟨3, ![1, 512, 4096]⟩
abbrev S1x2x4096 : Shape := ⟨3, ![1, 2, 4096]⟩
abbrev S4x512x1024 : Shape := ⟨3, ![4, 512, 1024]⟩
abbrev S4x1 : Shape := ⟨2, ![4, 1]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S4x1024 : Shape := ⟨2, ![4, 1024]⟩
abbrev S1024 : Shape := ⟨1, ![1024]⟩
abbrev S1x1x1024 : Shape := ⟨3, ![1, 1, 1024]⟩
abbrev S8x4096x2 : Shape := ⟨3, ![8, 4096, 2]⟩

abbrev nBuf : Space → Nat
  | .hbm => 12
  | .vmem => 8
  | .smem => 0
  | _ => 0

abbrev bufTy : (tb : Table) → Fin (tcTables nBuf tb) → BufTy
  | .hbm, ⟨0, _⟩ => ⟨S8x512x4096, .f32⟩
  | .hbm, ⟨1, _⟩ => ⟨S512x4, .f32⟩
  | .hbm, ⟨2, _⟩ => ⟨S4, .f32⟩
  | .hbm, ⟨3, _⟩ => ⟨S4x512, .f32⟩
  | .hbm, ⟨4, _⟩ => ⟨S512, .f32⟩
  | .hbm, ⟨5, _⟩ => ⟨S4x6, .f32⟩
  | .hbm, ⟨6, _⟩ => ⟨S4x512, .f32⟩
  | .hbm, ⟨7, _⟩ => ⟨S512x4, .f32⟩
  | .hbm, ⟨8, _⟩ => ⟨S512x4, .bf16⟩
  | .hbm, ⟨9, _⟩ => ⟨S8x2x4096, .i32⟩
  | .hbm, ⟨10, _⟩ => ⟨S8x512x4096, .f32⟩
  | .hbm, ⟨11, _⟩ => ⟨S8x4096x2, .i32⟩
  | .local _ .vmem, ⟨0, _⟩ => ⟨S1x512x4096, .f32⟩
  | .local _ .vmem, ⟨1, _⟩ => ⟨S1x512x4096, .f32⟩
  | .local _ .vmem, ⟨2, _⟩ => ⟨S4x512, .f32⟩
  | .local _ .vmem, ⟨3, _⟩ => ⟨S512x4, .bf16⟩
  | .local _ .vmem, ⟨4, _⟩ => ⟨S4x6, .f32⟩
  | .local _ .vmem, ⟨5, _⟩ => ⟨S1x2x4096, .i32⟩
  | .local _ .vmem, ⟨6, _⟩ => ⟨S1x2x4096, .i32⟩
  | .local _ .vmem, ⟨7, _⟩ => ⟨S4x512x1024, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32_0 : BitVec 32 := 0#32
  let v3 : BitVec 1 := Scalar.cmpi .eq arg0 c0_i32_0
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let v_true : BitVec 1 := 1#1
  let v12 : BitVec 1 := Scalar.xori v5 v_true
  let v13 : BitVec 32 := Scalar.extui v12
  let c0_i32_8 : BitVec 32 := 0#32
  let v14 : BitVec 1 := Scalar.cmpi .ne v13 c0_i32_8
  v14

def k0_off1 (i : grid0.Coords) : Fin 3 → Nat :=
  let arg0 : BitVec 32 := BitVec.ofNat 32 (i 0).val
  let c0_i32_121 : BitVec 32 := 0#32
  let arg1 : BitVec 32 := BitVec.ofNat 32 (i 1).val
  let c4096_i32_117 : BitVec 32 := 4096#32
  let v318 : BitVec 32 := Scalar.muli arg1 c4096_i32_117
  let c0_i32_118 : BitVec 32 := 0#32
  let v319 : BitVec 32 := Scalar.addi v318 c0_i32_118
  ![arg0.toNat, 0, v319.toNat]
def k0_off2 (i : grid0.Coords) (c0_i32_29 : BitVec 32) : Fin 3 → Nat :=
  let arg0 : BitVec 32 := BitVec.ofNat 32 (i 0).val
  let c0_i32_32 : BitVec 32 := 0#32
  let arg1 : BitVec 32 := BitVec.ofNat 32 (i 1).val
  let c4096_i32 : BitVec 32 := 4096#32
  let v80 : BitVec 32 := Scalar.muli arg1 c4096_i32
  let v81 : BitVec 32 := Scalar.addi v80 c0_i32_29
  ![arg0.toNat, 0, v81.toNat]
def k0_cond2 (i : grid0.Coords) : BitVec 1 :=
  let arg0 : BitVec 32 := BitVec.ofNat 32 (i 0).val
  let c0_i32_0 : BitVec 32 := 0#32
  let v3 : BitVec 1 := Scalar.cmpi .eq arg0 c0_i32_0
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let true_35 : BitVec 1 := 1#1
  let v88 : BitVec 1 := Scalar.xori v5 true_35
  let v89 : BitVec 32 := Scalar.extui v88
  let c0_i32_36 : BitVec 32 := 0#32
  let v90 : BitVec 1 := Scalar.cmpi .ne v89 c0_i32_36
  v90

def k0_off3 (i : grid0.Coords) : Fin 3 → Nat :=
  let arg0 : BitVec 32 := BitVec.ofNat 32 (i 0).val
  let c0_i32_121 : BitVec 32 := 0#32
  let arg1 : BitVec 32 := BitVec.ofNat 32 (i 1).val
  let c4096_i32_117 : BitVec 32 := 4096#32
  let v318 : BitVec 32 := Scalar.muli arg1 c4096_i32_117
  let c1024_i32_118 : BitVec 32 := 1024#32
  let v319 : BitVec 32 := Scalar.addi v318 c1024_i32_118
  ![arg0.toNat, 0, v319.toNat]
def k0_cond3 (i : grid0.Coords) : BitVec 1 :=
  let arg0 : BitVec 32 := BitVec.ofNat 32 (i 0).val
  let c0_i32_0 : BitVec 32 := 0#32
  let v3 : BitVec 1 := Scalar.cmpi .eq arg0 c0_i32_0
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let true_62 : BitVec 1 := 1#1
  let v164 : BitVec 1 := Scalar.xori v5 true_62
  let v165 : BitVec 32 := Scalar.extui v164
  let c0_i32_63 : BitVec 32 := 0#32
  let v166 : BitVec 1 := Scalar.cmpi .ne v165 c0_i32_63
  v166

def k0_off4 (i : grid0.Coords) : Fin 3 → Nat :=
  let arg0 : BitVec 32 := BitVec.ofNat 32 (i 0).val
  let c0_i32_121 : BitVec 32 := 0#32
  let arg1 : BitVec 32 := BitVec.ofNat 32 (i 1).val
  let c4096_i32_117 : BitVec 32 := 4096#32
  let v318 : BitVec 32 := Scalar.muli arg1 c4096_i32_117
  let c2048_i32_118 : BitVec 32 := 2048#32
  let v319 : BitVec 32 := Scalar.addi v318 c2048_i32_118
  ![arg0.toNat, 0, v319.toNat]
def k0_cond4 (i : grid0.Coords) : BitVec 1 :=
  let arg0 : BitVec 32 := BitVec.ofNat 32 (i 0).val
  let c0_i32_0 : BitVec 32 := 0#32
  let v3 : BitVec 1 := Scalar.cmpi .eq arg0 c0_i32_0
  let arg1 : BitVec 32 := BitVec.ofNat 32 (i 1).val
  let c0_i32_1 : BitVec 32 := 0#32
  let v4 : BitVec 1 := Scalar.cmpi .eq arg1 c0_i32_1
  let v5 : BitVec 1 := Scalar.andi v3 v4
  let true_89 : BitVec 1 := 1#1
  let v240 : BitVec 1 := Scalar.xori v5 true_89
  let v241 : BitVec 32 := Scalar.extui v240
  let c0_i32_90 : BitVec 32 := 0#32
  let v242 : BitVec 1 := Scalar.cmpi .ne v241 c0_i32_90
  v242

def k0_off5 (i : grid0.Coords) : Fin 3 → Nat :=
  let arg0 : BitVec 32 := BitVec.ofNat 32 (i 0).val
  let c0_i32_121 : BitVec 32 := 0#32
  let arg1 : BitVec 32 := BitVec.ofNat 32 (i 1).val
  let c4096_i32_117 : BitVec 32 := 4096#32
  let v318 : BitVec 32 := Scalar.muli arg1 c4096_i32_117
  let c3072_i32_118 : BitVec 32 := 3072#32
  let v319 : BitVec 32 := Scalar.addi v318 c3072_i32_118
  ![arg0.toNat, 0, v319.toNat]
def k0_cond5 (i : grid0.Coords) : BitVec 1 :=
  let arg0 : BitVec 32 := BitVec.ofNat 32 (i 0).val
  let c7_i32 : BitVec 32 := 7#32
  let v0 : BitVec 1 := Scalar.cmpi .eq arg0 c7_i32
  let arg1 : BitVec 32 := BitVec.ofNat 32 (i 1).val
  let c0_i32 : BitVec 32 := 0#32
  let v1 : BitVec 1 := Scalar.cmpi .eq arg1 c0_i32
  let v2 : BitVec 1 := Scalar.andi v0 v1
  let v316 : BitVec 32 := Scalar.extui v2
  let c0_i32_116 : BitVec 32 := 0#32
  let v317 : BitVec 1 := Scalar.cmpi .ne v316 c0_i32_116
  v317

def k0_off6 (i : grid0.Coords) (c0_i32_118 : BitVec 32) : Fin 3 → Nat :=
  let arg0 : BitVec 32 := BitVec.ofNat 32 (i 0).val
  let c0_i32_121 : BitVec 32 := 0#32
  let arg1 : BitVec 32 := BitVec.ofNat 32 (i 1).val
  let c4096_i32_117 : BitVec 32 := 4096#32
  let v318 : BitVec 32 := Scalar.muli arg1 c4096_i32_117
  let v319 : BitVec 32 := Scalar.addi v318 c0_i32_118
  ![arg0.toNat, 0, v319.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x512x4096 : Shape := ⟨3, ![8, 512, 4096]⟩
abbrev S512x4 : Shape := ⟨2, ![512, 4]⟩
abbrev S4 : Shape := ⟨1, ![4]⟩
abbrev S4x512 : Shape := ⟨2, ![4, 512]⟩
abbrev S512 : Shape := ⟨1, ![512]⟩
abbrev S8x4096x512 : Shape := ⟨3, ![8, 4096, 512]⟩
abbrev S8x4096x4 : Shape := ⟨3, ![8, 4096, 4]⟩
abbrev S1x1x4 : Shape := ⟨3, ![1, 1, 4]⟩
abbrev S_ : Shape := ⟨0, ![]⟩
abbrev S8x4096 : Shape := ⟨2, ![8, 4096]⟩
abbrev S8x4096x1 : Shape := ⟨3, ![8, 4096, 1]⟩
abbrev S8x4096x2 : Shape := ⟨3, ![8, 4096, 2]⟩
abbrev S1x1x512 : Shape := ⟨3, ![1, 1, 512]⟩

abbrev nBuf : Space → Nat
  | .hbm => 113
  | .vmem => 0
  | .smem => 0
  | _ => 0

abbrev bufTy : (tb : Table) → Fin (tcTables nBuf tb) → BufTy
  | .hbm, ⟨0, _⟩ => ⟨S8x512x4096, .f32⟩
  | .hbm, ⟨1, _⟩ => ⟨S512x4, .f32⟩
  | .hbm, ⟨2, _⟩ => ⟨S4, .f32⟩
  | .hbm, ⟨3, _⟩ => ⟨S4x512, .f32⟩
  | .hbm, ⟨4, _⟩ => ⟨S512, .f32⟩
  | .hbm, ⟨5, _⟩ => ⟨S4, .f32⟩
  | .hbm, ⟨6, _⟩ => ⟨S4, .f32⟩
  | .hbm, ⟨7, _⟩ => ⟨S4, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S8x4096x512, .f32⟩
  | .hbm, ⟨17, _⟩ => ⟨S8x4096x4, .f32⟩
  | .hbm, ⟨18, _⟩ => ⟨S1x1x4, .f32⟩
  | .hbm, ⟨19, _⟩ => ⟨S8x4096x4, .f32⟩
  | .hbm, ⟨20, _⟩ => ⟨S8x4096x4, .f32⟩
  | .hbm, ⟨21, _⟩ => ⟨S_, .f32⟩
  | .hbm, ⟨22, _⟩ => ⟨S8x4096x4, .f32⟩
  | .hbm, ⟨23, _⟩ => ⟨S1x1x4, .f32⟩
  | .hbm, ⟨24, _⟩ => ⟨S8x4096x4, .f32⟩
  | .hbm, ⟨25, _⟩ => ⟨S8x4096x4, .f32⟩
  | .hbm, ⟨26, _⟩ => ⟨S8x4096x4, .f32⟩
  | .hbm, ⟨27, _⟩ => ⟨S1x1x4, .f32⟩
  | .hbm, ⟨28, _⟩ => ⟨S8x4096x4, .f32⟩
  | .hbm, ⟨29, _⟩ => ⟨S8x4096x4, .f32⟩
  | .hbm, ⟨30, _⟩ => ⟨S1x1x4, .f32⟩
  | .hbm, ⟨31, _⟩ => ⟨S8x4096x4, .f32⟩
  | .hbm, ⟨32, _⟩ => ⟨S8x4096x4, .f32⟩
  | .hbm, ⟨33, _⟩ => ⟨S1x1x4, .f32⟩
  | .hbm, ⟨34, _⟩ => ⟨S8x4096x4, .f32⟩
  | .hbm, ⟨35, _⟩ => ⟨S8x4096x4, .f32⟩
  | .hbm, ⟨36, _⟩ => ⟨S1x1x4, .f32⟩
  | .hbm, ⟨37, _⟩ => ⟨S8x4096x4, .f32⟩
  | .hbm, ⟨38, _⟩ => ⟨S8x4096x4, .f32⟩
  | .hbm, ⟨39, _⟩ => ⟨S8x4096x4, .f32⟩
  | .hbm, ⟨40, _⟩ => ⟨S1x1x4, .f32⟩
  | .hbm, ⟨41, _⟩ => ⟨S8x4096x4, .f32⟩
  | .hbm, ⟨42, _⟩ => ⟨S8x4096x4, .f32⟩
  | .hbm, ⟨43, _⟩ => ⟨S1x1x4, .f32⟩
  | .hbm, ⟨44, _⟩ => ⟨S8x4096x4, .f32⟩
  | .hbm, ⟨45, _⟩ => ⟨S8x4096x4, .f32⟩
  | .hbm, ⟨46, _⟩ => ⟨S8x4096x4, .f32⟩
  | .hbm, ⟨47, _⟩ => ⟨S8x4096x4, .f32⟩
  | .hbm, ⟨48, _⟩ => ⟨S8x4096x4, .f32⟩
  | .hbm, ⟨49, _⟩ => ⟨S1x1x4, .f32⟩
  | .hbm, ⟨50, _⟩ => ⟨S8x4096x4, .f32⟩
  | .hbm, ⟨51, _⟩ => ⟨S8x4096x4, .f32⟩
  | .hbm, ⟨52, _⟩ => ⟨S1x1x4, .f32⟩
  | .hbm, ⟨53, _⟩ => ⟨S8x4096x4, .f32⟩
  | .hbm, ⟨54, _⟩ => ⟨S8x4096x4, .f32⟩
  | .hbm, ⟨55, _⟩ => ⟨S1x1x4, .f32⟩
  | .hbm, ⟨56, _⟩ => ⟨S8x4096x4, .f32⟩
  | .hbm, ⟨57, _⟩ => ⟨S8x4096x4, .f32⟩
  | .hbm, ⟨58, _⟩ => ⟨S1x1x4, .f32⟩
  | .hbm, ⟨59, _⟩ => ⟨S8x4096x4, .f32⟩
  | .hbm, ⟨60, _⟩ => ⟨S8x4096x4, .f32⟩
  | .hbm, ⟨61, _⟩ => ⟨S_, .f32⟩
  | .hbm, ⟨62, _⟩ => ⟨S8x4096, .f32⟩
  | .hbm, ⟨63, _⟩ => ⟨S8x4096, .i32⟩
  | .hbm, ⟨64, _⟩ => ⟨S1x1x4, .f32⟩
  | .hbm, ⟨65, _⟩ => ⟨S8x4096x4, .f32⟩
  | .hbm, ⟨66, _⟩ => ⟨S8x4096x4, .f32⟩
  | .hbm, ⟨67, _⟩ => ⟨S8x4096x4, .f32⟩
  | .hbm, ⟨68, _⟩ => ⟨S8x4096x4, .f32⟩
  | .hbm, ⟨69, _⟩ => ⟨S1x1x4, .f32⟩
  | .hbm, ⟨70, _⟩ => ⟨S8x4096x4, .f32⟩
  | .hbm, ⟨71, _⟩ => ⟨S8x4096x4, .f32⟩
  | .hbm, ⟨72, _⟩ => ⟨S1x1x4, .f32⟩
  | .hbm, ⟨73, _⟩ => ⟨S8x4096x4, .f32⟩
  | .hbm, ⟨74, _⟩ => ⟨S8x4096x4, .f32⟩
  | .hbm, ⟨75, _⟩ => ⟨S8x4096x4, .f32⟩
  | .hbm, ⟨76, _⟩ => ⟨S1x1x4, .f32⟩
  | .hbm, ⟨77, _⟩ => ⟨S8x4096x4, .f32⟩
  | .hbm, ⟨78, _⟩ => ⟨S8x4096x4, .f32⟩
  | .hbm, ⟨79, _⟩ => ⟨S1x1x4, .f32⟩
  | .hbm, ⟨80, _⟩ => ⟨S8x4096x4, .f32⟩
  | .hbm, ⟨81, _⟩ => ⟨S8x4096x4, .f32⟩
  | .hbm, ⟨82, _⟩ => ⟨S8x4096x4, .f32⟩
  | .hbm, ⟨83, _⟩ => ⟨S8x4096x4, .f32⟩
  | .hbm, ⟨84, _⟩ => ⟨S8x4096x4, .f32⟩
  | .hbm, ⟨85, _⟩ => ⟨S1x1x4, .f32⟩
  | .hbm, ⟨86, _⟩ => ⟨S8x4096x4, .f32⟩
  | .hbm, ⟨87, _⟩ => ⟨S8x4096x4, .f32⟩
  | .hbm, ⟨88, _⟩ => ⟨S1x1x4, .f32⟩
  | .hbm, ⟨89, _⟩ => ⟨S8x4096x4, .f32⟩
  | .hbm, ⟨90, _⟩ => ⟨S8x4096x4, .f32⟩
  | .hbm, ⟨91, _⟩ => ⟨S1x1x4, .f32⟩
  | .hbm, ⟨92, _⟩ => ⟨S8x4096x4, .f32⟩
  | .hbm, ⟨93, _⟩ => ⟨S8x4096x4, .f32⟩
  | .hbm, ⟨94, _⟩ => ⟨S1x1x4, .f32⟩
  | .hbm, ⟨95, _⟩ => ⟨S8x4096x4, .f32⟩
  | .hbm, ⟨96, _⟩ => ⟨S8x4096x4, .f32⟩
  | .hbm, ⟨97, _⟩ => ⟨S_, .f32⟩
  | .hbm, ⟨98, _⟩ => ⟨S8x4096, .f32⟩
  | .hbm, ⟨99, _⟩ => ⟨S8x4096, .i32⟩
  | .hbm, ⟨100, _⟩ => ⟨S1x1x4, .f32⟩
  | .hbm, ⟨101, _⟩ => ⟨S8x4096x4, .f32⟩
  | .hbm, ⟨102, _⟩ => ⟨S8x4096x4, .f32⟩
  | .hbm, ⟨103, _⟩ => ⟨S8x4096x4, .f32⟩
  | .hbm, ⟨104, _⟩ => ⟨S8x4096x4, .f32⟩
  | .hbm, ⟨105, _⟩ => ⟨S8x4096x1, .i32⟩
  | .hbm, ⟨106, _⟩ => ⟨S8x4096x1, .i32⟩
  | .hbm, ⟨107, _⟩ => ⟨S8x4096x2, .i32⟩
  | .hbm, ⟨108, _⟩ => ⟨S8x4096x512, .f32⟩
  | .hbm, ⟨109, _⟩ => ⟨S1x1x512, .f32⟩
  | .hbm, ⟨110, _⟩ => ⟨S8x4096x512, .f32⟩
  | .hbm, ⟨111, _⟩ => ⟨S8x4096x512, .f32⟩
  | .hbm, ⟨112, _⟩ => ⟨S8x512x4096, .f32⟩
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_cst_1 : Ref sig .tc := ⟨.hbm, 7, rfl⟩
abbrev main_cst_2 : Ref sig .tc := ⟨.hbm, 8, rfl⟩
abbrev main_cst_3 : Ref sig .tc := ⟨.hbm, 9, rfl⟩
abbrev main_cst_4 : Ref sig .tc := ⟨.hbm, 10, rfl⟩
abbrev main_cst_5 : Ref sig .tc := ⟨.hbm, 11, rfl⟩
abbrev main_cst_6 : Ref sig .tc := ⟨.hbm, 12, rfl⟩
abbrev main_cst_7 : Ref sig .tc := ⟨.hbm, 13, rfl⟩
abbrev main_cst_8 : Ref sig .tc := ⟨.hbm, 14, rfl⟩
abbrev main_cst_9 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_10 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩

abbrev nD : Nat := 1
abbrev τ : Topo := Topo.v7x

variable {F : FTy → Type} [FloatOps F]
-- ==== Proof.KI.Slots.lean ====
/-
  The names of the kernel's own buffers: slot `j` of the scratch ring, the semaphore cell it is counted on, and tile `j` of
  batch entry `b` of the result, each as the body slices and squeezes it. Which elements a slot or a tile takes, that they do
  not overlap and cover the buffer, and the ring's contents held slot by slot.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Names -/

/-- The second result, the one the kernel writes by its own copies. -/
abbrev outM : Memref sig .tc .hbm S8x512x4096 .f32 := Memref.whole main_v3_1
/-- The scratch ring of four slots. -/
abbrev bufM : Memref sig .tc .vmem S4x512x1024 .f32 := Memref.whole cc0_scratch0

abbrev slotOff (j : Fin 4) : Fin 3 → Nat := ![j.val, 0, 0]
theorem slotOff_inb (j : Fin 4) : ∀ a, slotOff j a + S1x512x1024.size a ≤ S4x512x1024.size a := by
  have := j.isLt; intro a; fin_cases a
  · show j.val + 1 ≤ 4; omega
  · show 0 + 512 ≤ 512; omega
  · show 0 + 1024 ≤ 1024; omega
abbrev cellOff (j : Fin 4) : Fin 1 → Nat := ![j.val]
theorem cellOff_inb (j : Fin 4) : ∀ a, cellOff j a + S1.size a ≤ S4.size a := by
  have := j.isLt; intro a; fin_cases a; show j.val + 1 ≤ 4; omega
abbrev tileOff (b : Fin 8) (j : Fin 4) : Fin 3 → Nat := ![b.val, 0, 1024 * j.val]
theorem tileOff_inb (b : Fin 8) (j : Fin 4) : ∀ a, tileOff b j a + S1x512x1024.size a ≤ S8x512x4096.size a := by
  have := b.isLt; have := j.isLt; intro a; fin_cases a
  · show b.val + 1 ≤ 8; omega
  · show 0 + 512 ≤ 512; omega
  · show 1024 * j.val + 1024 ≤ 4096; omega

/-- Slot `j` of the ring. -/
def slot (j : Fin 4) : Memref sig .tc .vmem S512x1024 .f32 :=
  (bufM.slice (Rect.unit (s := S4x512x1024) (slotOff j) S1x512x1024.size (slotOff_inb j)) (fun _ => rfl)).squeeze S512x1024 squeezes_S1x512x1024_S512x1024
/-- Slot `j`'s semaphore cell. -/
def cell (j : Fin 4) : DmaSems sig S_ := (cc0_scratch1.slice (Rect.unit (s := S4) (cellOff j) S1.size (cellOff_inb j))).squeeze S_ squeezes_S1_S_
/-- Tile `j` of batch entry `b` of the result. -/
def tile (b : Fin 8) (j : Fin 4) : Memref sig .tc .hbm S512x1024 .f32 :=
  (outM.slice (Rect.unit (s := S8x512x4096) (tileOff b j) S1x512x1024.size (tileOff_inb b j)) (fun _ => rfl)).squeeze S512x1024 squeezes_S1x512x1024_S512x1024

instance (j : Fin 4) : ClosedOff (slotOff j) := ⟨slotOff j, rfl⟩
instance (b : Fin 8) (j : Fin 4) : ClosedOff (tileOff b j) := ⟨tileOff b j, rfl⟩

/-! ## The body's spellings -/

/-- The batch entry of a grid point. -/
abbrev entry (i : grid0.Coords) : Fin 8 := i 0

theorem cell_of {off : Fin 1 → Nat} {j : Fin 4} (e : off = cellOff j) (hh) :
    (cc0_scratch1.slice (Rect.unit (s := S4) off S1.size hh)).squeeze S_ squeezes_S1_S_ = cell j :=
  congrArg (fun A : DmaSems sig S1 => A.squeeze S_ squeezes_S1_S_) (SemArray.slice_unit_congr _ e _ _)
theorem slot_of {off : Fin 3 → Nat} {j : Fin 4} (e : off = slotOff j) (hh hs) :
    (bufM.slice (Rect.unit (s := S4x512x1024) off S1x512x1024.size hh) hs).squeeze S512x1024 squeezes_S1x512x1024_S512x1024 = slot j :=
  congrArg (fun M : Memref sig .tc .vmem S1x512x1024 .f32 => M.squeeze S512x1024 squeezes_S1x512x1024_S512x1024) (Memref.slice_unit_congr _ e _ _ _ _)
theorem tile_of {off : Fin 3 → Nat} {b : Fin 8} {j : Fin 4} (e : off = tileOff b j) (hh hs) :
    (outM.slice (Rect.unit (s := S8x512x4096) off S1x512x1024.size hh) hs).squeeze S512x1024 squeezes_S1x512x1024_S512x1024 = tile b j :=
  congrArg (fun M : Memref sig .tc .hbm S1x512x1024 .f32 => M.squeeze S512x1024 squeezes_S1x512x1024_S512x1024) (Memref.slice_unit_congr _ e _ _ _ _)

@[sl_canon] theorem cell0 (hh) : (cc0_scratch1.slice (Rect.unit (s := S4) ![0] S1.size hh)).squeeze S_ squeezes_S1_S_ = cell 0 := cell_of (by decide) _
@[sl_canon] theorem cell1 (hh) : (cc0_scratch1.slice (Rect.unit (s := S4) ![1] S1.size hh)).squeeze S_ squeezes_S1_S_ = cell 1 := cell_of (by decide) _
@[sl_canon] theorem cell2 (hh) : (cc0_scratch1.slice (Rect.unit (s := S4) ![2] S1.size hh)).squeeze S_ squeezes_S1_S_ = cell 2 := cell_of (by decide) _
@[sl_canon] theorem cell3 (hh) : (cc0_scratch1.slice (Rect.unit (s := S4) ![3] S1.size hh)).squeeze S_ squeezes_S1_S_ = cell 3 := cell_of (by decide) _
@[sl_canon] theorem slot0 (hh hs) : (bufM.slice (Rect.unit (s := S4x512x1024) ![0, 0, 0] S1x512x1024.size hh) hs).squeeze S512x1024 squeezes_S1x512x1024_S512x1024 = slot 0 := slot_of (by decide) _ _
@[sl_canon] theorem slot1 (hh hs) : (bufM.slice (Rect.unit (s := S4x512x1024) ![1, 0, 0] S1x512x1024.size hh) hs).squeeze S512x1024 squeezes_S1x512x1024_S512x1024 = slot 1 := slot_of (by decide) _ _
@[sl_canon] theorem slot2 (hh hs) : (bufM.slice (Rect.unit (s := S4x512x1024) ![2, 0, 0] S1x512x1024.size hh) hs).squeeze S512x1024 squeezes_S1x512x1024_S512x1024 = slot 2 := slot_of (by decide) _ _
@[sl_canon] theorem slot3 (hh hs) : (bufM.slice (Rect.unit (s := S4x512x1024) ![3, 0, 0] S1x512x1024.size hh) hs).squeeze S512x1024 squeezes_S1x512x1024_S512x1024 = slot 3 := slot_of (by decide) _ _

/-- A tile's offset as the body computes it. -/
theorem off2_eq : ∀ (i : grid0.Coords) (j : Fin 4), k0_off2 i (BitVec.ofNat 32 (1024 * j.val)) = tileOff (entry i) j := by decide +kernel
@[sl_canon] theorem tile0 (i : grid0.Coords) (hh hs) : (outM.slice (Rect.unit (s := S8x512x4096) (k0_off2 i 0#32) S1x512x1024.size hh) hs).squeeze S512x1024 squeezes_S1x512x1024_S512x1024 = tile (entry i) 0 := tile_of (off2_eq i 0) _ _
@[sl_canon] theorem tile1 (i : grid0.Coords) (hh hs) : (outM.slice (Rect.unit (s := S8x512x4096) (k0_off2 i 1024#32) S1x512x1024.size hh) hs).squeeze S512x1024 squeezes_S1x512x1024_S512x1024 = tile (entry i) 1 := tile_of (off2_eq i 1) _ _
@[sl_canon] theorem tile2 (i : grid0.Coords) (hh hs) : (outM.slice (Rect.unit (s := S8x512x4096) (k0_off2 i 2048#32) S1x512x1024.size hh) hs).squeeze S512x1024 squeezes_S1x512x1024_S512x1024 = tile (entry i) 2 := tile_of (off2_eq i 2) _ _
@[sl_canon] theorem tile3 (i : grid0.Coords) (hh hs) : (outM.slice (Rect.unit (s := S8x512x4096) (k0_off2 i 3072#32) S1x512x1024.size hh) hs).squeeze S512x1024 squeezes_S1x512x1024_S512x1024 = tile (entry i) 3 := tile_of (off2_eq i 3) _ _

/-! ## What is held of each -/

omit [FloatOps F] in
theorem entails_of_eq {P Q : sProp 𝕄} (e : P = Q) : P ⊢ Q := e ▸ .rfl

/-- Cell `j` at zero: no copy out of slot `j` under way. -/
abbrev cellP (c : Dev nD) (j : Fin 4) : sProp 𝕄 := semVal ((c : Thread nD τ), SemLoc.dma (cell j).sem) 0
/-- Slot `j` held at contents `f`. -/
abbrev slotP (c : Dev nD) (j : Fin 4) (f : Buf (Elt F) ((slot j).view.loc (c : Thread nD τ))) : sProp 𝕄 :=
  (slot j).view.loc (c : Thread nD τ) ↦[(slot j).view.set]{fullShare} f
/-- Tile `j` of entry `b` held at contents `f` of the whole array. -/
abbrev tileP (c : Dev nD) (b : Fin 8) (j : Fin 4) (f : Buf (Elt F) ((tile b j).view.loc (c : Thread nD τ))) : sProp 𝕄 :=
  (tile b j).view.loc (c : Thread nD τ) ↦[(tile b j).view.set]{fullShare} f

end Cert.Proof.KI

end
-- ==== Proof.KI.Tile.lean ====
/-
  What one grid point computes from the four blocks staged for it: for each of the four column tiles the two rows of indices and
  the output tile, all by the same three functions of the tile's inputs.
-/
module

public import proofs.«01_k».proof.Proof.KI.Slots

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## One tile, as functions of the six columns of constants, the tile of `x` and the two matrices -/

section Funs
variable (hl sh off hw ba sc : Vec F S4x1 .f32) (x : Vec F S1x512x1024 .f32) (win : Vec F S4x512 .f32) (wout : Vec F S512x4 .bf16)

/-- The bounded residual of the second stage, before its scale: `tanh` of the scaled residual, shifted. -/
def tanh2 : FVec F S4x1024 .f32 := k0_pay36 hl sh off hw sc x win
/-- The first stage's row of indices. -/
def idx1 : IVec S1x1x1024 32 := k0_pay34 hl sh off hw ba x win
/-- The second stage's row of indices. -/
def idx2 : IVec S1x1x1024 32 := k0_pay38 hl off hw ba (tanh2 hl sh off hw sc x win)
/-- The output tile. -/
def outTile : FVec F S1x512x1024 .f32 := k0_pay39 hl off hw sc (k0_pay35 hl sh off hw x win) (tanh2 hl sh off hw sc x win) wout
end Funs

/-! ## The body's own spellings of the four tiles -/

section Spellings
variable (v6 v7 v8 v9 v10 v11 : Vec F S4x1 .f32) (x : Vec F S1x512x1024 .f32) (w : Vec F S4x512 .f32) (u : Vec F S512x4 .bf16)

def idx1At (j : Fin 4) : IVec S1x1x1024 32 :=
  match j with
  | 0 => k0_pay7 v8 v9 v10 (k0_pay3 v6 v7 v8 x w) (k0_pay4 v6)
  | 1 => k0_pay18 (k0_pay16 v6 v7 v8 v9 x w) (k0_pay17 v10)
  | 2 => k0_pay27 (k0_pay26 v6 v7 v8 v9 v10 x w)
  | 3 => k0_pay34 v6 v7 v8 v9 v10 x w
def idx2At (j : Fin 4) : IVec S1x1x1024 32 :=
  match j with
  | 0 => k0_pay9 v6 v7 v8 v9 v10 v11 (k0_pay1 v6 v7 v8 x w) (k0_pay3 v6 v7 v8 x w) (k0_pay4 v6)
  | 1 => k0_pay20 v6 v7 v8 v9 v10 v11 (k0_pay12 v6 v7 v8 x w) (k0_pay15 v6 v7 v8 v9 x w)
  | 2 => k0_pay29 v6 v7 v8 v9 v10 v11 (k0_pay22 v6 v7 v8 x w) (k0_pay25 v6 v7 v8 v9 x w)
  | 3 => k0_pay38 v6 v8 v9 v10 (k0_pay36 v6 v7 v8 v9 v11 x w)
def outAt (j : Fin 4) : FVec F S1x512x1024 .f32 :=
  match j with
  | 0 => k0_pay11 (k0_pay10 v6 v7 v8 v9 v11 (k0_pay1 v6 v7 v8 x w) (k0_pay2 (F := F)) (k0_pay3 v6 v7 v8 x w) (k0_pay4 v6) u)
  | 1 => k0_pay21 v6 v7 v8 v9 v11 (k0_pay12 v6 v7 v8 x w) (k0_pay13 (F := F)) (k0_pay15 v6 v7 v8 v9 x w) u
  | 2 => k0_pay30 v6 v7 v8 v9 v11 (k0_pay22 v6 v7 v8 x w) (k0_pay23 (F := F)) (k0_pay25 v6 v7 v8 v9 x w) u
  | 3 => k0_pay39 v6 v8 v9 v11 (k0_pay35 v6 v7 v8 v9 x w) (k0_pay36 v6 v7 v8 v9 v11 x w) u

/-- The four spellings of each are one function. -/
theorem idx1At_eq (j : Fin 4) : idx1At v6 v7 v8 v9 v10 x w j = idx1 v6 v7 v8 v9 v10 x w := by
  fin_cases j <;> rfl
theorem idx2At_eq (j : Fin 4) : idx2At v6 v7 v8 v9 v10 v11 x w j = idx2 v6 v7 v8 v9 v10 v11 x w := by
  fin_cases j <;> rfl
theorem outAt_eq (j : Fin 4) : outAt v6 v7 v8 v9 v11 x w u j = outTile v6 v7 v8 v9 v11 x w u := by
  fin_cases j <;> rfl
end Spellings

/-! ## One point: the four tiles read off the staged blocks -/

section Point
variable (X2 : S1x512x4096.Idx → Elt F .f32) (X3 : S4x512.Idx → Elt F .f32) (X4 : S512x4.Idx → Elt F .bf16) (X5 : S4x6.Idx → Elt F .f32)

theorem col_inb (k : Fin 6) : ∀ a, (![0, k.val] : Fin 2 → Nat) a + S4x1.size a ≤ S4x6.size a := by
  have := k.isLt; intro a; fin_cases a
  · show 0 + 4 ≤ 4; omega
  · show k.val + 1 ≤ 6; omega
theorem xs_inb (j : Fin 4) : ∀ a, (![0, 0, 1024 * j.val] : Fin 3 → Nat) a + S1x512x1024.size a ≤ S1x512x4096.size a := by
  have := j.isLt; intro a; fin_cases a
  · show 0 + 1 ≤ 1; omega
  · show 0 + 512 ≤ 512; omega
  · show 1024 * j.val + 1024 ≤ 4096; omega
theorem zs_inb (q : Fin 2) (j : Fin 4) : ∀ a, (![0, q.val, 1024 * j.val] : Fin 3 → Nat) a + S1x1x1024.size a ≤ S1x2x4096.size a := by
  have := j.isLt; have := q.isLt; intro a; fin_cases a
  · show 0 + 1 ≤ 1; omega
  · show q.val + 1 ≤ 2; omega
  · show 1024 * j.val + 1024 ≤ 4096; omega

/-- Column `k` of the table of constants. -/
def col (k : Fin 6) : Vec F S4x1 .f32 := fun y => X5 ((Rect.unit (s := S4x6) ![0, k.val] S4x1.size (col_inb k)).emb y)
/-- Columns `1024 j` to `1024 j + 1023` of the block of `x`. -/
def xCols (j : Fin 4) : Vec F S1x512x1024 .f32 := fun y => X2 ((Rect.unit (s := S1x512x4096) ![0, 0, 1024 * j.val] S1x512x1024.size (xs_inb j)).emb y)

/-- The whole of the first matrix, as loaded. -/
def winAll : Vec F S4x512 .f32 := fun y => X3 ((Rect.unit (s := S4x512) ![0, 0] S4x512.size inb_S4x512_S4x512_0_0).emb y)
/-- The whole of the second matrix, as loaded. -/
def woutAll : Vec F S512x4 .bf16 := fun y => X4 ((Rect.unit (s := S512x4) ![0, 0] S512x4.size inb_S512x4_S512x4_0_0).emb y)

/-- Row `q` of the point's indices over tile `j`, as the body spells it. -/
def idxRow (q : Fin 2) (j : Fin 4) : IVec S1x1x1024 32 :=
  match q with
  | 0 => idx1At (col X5 0) (col X5 1) (col X5 2) (col X5 3) (col X5 4) (xCols X2 j) (winAll X3) j
  | 1 => idx2At (col X5 0) (col X5 1) (col X5 2) (col X5 3) (col X5 4) (col X5 5) (xCols X2 j) (winAll X3) j
/-- The point's output tile `j`, as the body spells it. -/
def outCols (j : Fin 4) : FVec F S1x512x1024 .f32 := outAt (col X5 0) (col X5 1) (col X5 2) (col X5 3) (col X5 5) (xCols X2 j) (winAll X3) (woutAll X4) j

/-- A store into the block of indices. -/
def idxPiece (q : Fin 2) (j : Fin 4) : View.Piece (Elt F) S1x2x4096 .i32 :=
  ⟨Rect.unit (s := S1x2x4096) ![0, q.val, 1024 * j.val] S1x1x1024.size (zs_inb q j), idxRow X2 X3 X5 q j⟩
/-- The stores into the block of indices, the last first. -/
def idxPieces : List (View.Piece (Elt F) S1x2x4096 .i32) :=
  [idxPiece X2 X3 X5 1 3, idxPiece X2 X3 X5 0 3, idxPiece X2 X3 X5 1 2, idxPiece X2 X3 X5 0 2,
   idxPiece X2 X3 X5 1 1, idxPiece X2 X3 X5 0 1, idxPiece X2 X3 X5 1 0, idxPiece X2 X3 X5 0 0]
end Point

/-! ## A tile of the result, written whole -/

/-- What the write of a whole slot reads back as through the slot. -/
theorem slot_read (j : Fin 4) (c : Dev nD) (f : Buf (Elt F) ((c : Thread nD τ).loc cc0_scratch0)) (hh) (w : S1x512x1024.Idx → Elt F .f32) :
    (slot j).view.read (Elt F) ((bufM.access (Rect.unit (s := S4x512x1024) (slotOff j) S1x512x1024.size hh)).write (Elt F) f w Finset.univ)
      = fun y => w (Shape.reshapeEquiv squeezes_S1x512x1024_S512x1024.numel_eq y) := by
  funext y
  exact congrFun (View.read_write_univ (v := bufM.access (Rect.unit (s := S4x512x1024) (slotOff j) S1x512x1024.size hh)) (Val := Elt F) f w) _

/-- A held tile is told by what is read through it. -/
theorem tileP_congr (c : Dev nD) (b : Fin 8) (j : Fin 4) (f g : Buf (Elt F) ((tile b j).view.loc (c : Thread nD τ)))
    (h : (tile b j).view.read (Elt F) f = (tile b j).view.read (Elt F) g) : (tileP c b j f : sProp 𝕄) = tileP c b j g := by
  unfold tileP
  rw [pointsTo_rep (Ix := Unit) (Name := ℕ) (U := Pipeline.UD sig nD τ) (Lvl := ℕ) (c : Thread nD τ) (tile b j) f fullShare,
    pointsTo_rep (Ix := Unit) (Name := ℕ) (U := Pipeline.UD sig nD τ) (Lvl := ℕ) (c : Thread nD τ) (tile b j) g fullShare, h]

end Cert.Proof.KI

end
-- ==== Proof.KI.Run.lean ====
/-
  One grid point run through: the first point issues its four copies into free slots, a middle point waits in each slot for the
  previous point's copy and issues its own, the last point waits for its own copies too.
-/
module

public import proofs.«01_k».proof.Proof.KI.Tile

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A staged buffer held whole at contents `X`. -/
abbrev heldP {sp : Space} {S : Shape} {e : EltTy} (c : Dev nD) (M : Memref sig .tc sp S e) (X : Buf (Elt F) (M.view.loc (c : Thread nD τ))) : sProp 𝕄 :=
  M.view.loc (c : Thread nD τ) ↦[M.view.set]{fullShare} X

/-- A copy out of slot `j` under way that delivers tile `j` of entry `b` at the contents `G`, and the slot back. -/
abbrev flightP (c : Dev nD) (b : Fin 8) (j : Fin 4) (G : Buf (Elt F) ((c : Thread nD τ).loc main_v3_1)) : sProp 𝕄 :=
  iprop(∃ fs, Transfers.Flight countersEmb (c : Thread nD τ) (SemLoc.dma (cell j).sem) () 65536 iprop(tileP c b j G ∗ slotP c j fs))

/-- A copy under way whose delivered tile reads as `G`'s is one delivering `G`. -/
theorem flightP_of (c : Dev nD) (b : Fin 8) (j : Fin 4) (G V : Buf (Elt F) ((tile b j).view.loc (c : Thread nD τ))) (D : S512x1024.Idx → Elt F .f32) (fs)
    (h : (tile b j).view.read (Elt F) G = D) :
    (Transfers.Flight countersEmb (c : Thread nD τ) (SemLoc.dma (cell j).sem) () 65536
      iprop(tileP c b j ((tile b j).view.writes (Elt F) V [⟨Rect.whole S512x1024, D⟩]) ∗ slotP c j fs) : sProp 𝕄) ⊢ flightP c b j G := by
  have e := tileP_congr (F := F) c b j ((tile b j).view.writes (Elt F) V [⟨Rect.whole S512x1024, D⟩]) G ((View.read_writes_whole _ _ _).trans h.symm)
  have e' := congrArg (fun P : sProp 𝕄 => (Transfers.Flight countersEmb (c : Thread nD τ) (SemLoc.dma (cell j).sem) () 65536 iprop(P ∗ slotP c j fs) : sProp 𝕄)) e
  refine (entails_of_eq e').trans ?_
  unfold flightP
  iintro H; iexists fs; iexact H

/-- The four tiles of entry `b` held at `f`. -/
abbrev rowP (c : Dev nD) (b : Fin 8) (f : Buf (Elt F) ((c : Thread nD τ).loc main_v3_1)) : sProp 𝕄 :=
  iprop(tileP c b 0 f ∗ tileP c b 1 f ∗ tileP c b 2 f ∗ tileP c b 3 f)
/-- The four copies of entry `b` under way. -/
abbrev flightsP (c : Dev nD) (b : Fin 8) (G : Buf (Elt F) ((c : Thread nD τ).loc main_v3_1)) : sProp 𝕄 :=
  iprop(flightP c b 0 G ∗ flightP c b 1 G ∗ flightP c b 2 G ∗ flightP c b 3 G)
/-- The four slots free, at anything. -/
abbrev slotsP (c : Dev nD) : sProp 𝕄 :=
  iprop((∃ f : Buf (Elt F) ((slot 0).view.loc (c : Thread nD τ)), slotP c 0 f) ∗ (∃ f : Buf (Elt F) ((slot 1).view.loc (c : Thread nD τ)), slotP c 1 f)
    ∗ (∃ f : Buf (Elt F) ((slot 2).view.loc (c : Thread nD τ)), slotP c 2 f) ∗ (∃ f : Buf (Elt F) ((slot 3).view.loc (c : Thread nD τ)), slotP c 3 f))
/-- The four cells at zero. -/
abbrev cellsP (c : Dev nD) : sProp 𝕄 := iprop(cellP c 0 ∗ cellP c 1 ∗ cellP c 2 ∗ cellP c 3)

/-- The kernel's body at a grid point, on the staged buffers. -/
abbrev bodyOf (i : grid0.Coords) (arg2 : Memref sig .tc .vmem S1x512x4096 .f32) (harg2 : arg2.IsWhole) (arg3 : Memref sig .tc .vmem S4x512 .f32) (harg3 : arg3.IsWhole)
  (arg4 : Memref sig .tc .vmem S512x4 .bf16) (harg4 : arg4.IsWhole) (arg5 : Memref sig .tc .vmem S4x6 .f32) (harg5 : arg5.IsWhole)
  (arg6 : Memref sig .tc .vmem S1x2x4096 .i32) (harg6 : arg6.IsWhole) :
    Prog (TpuEff nD τ sig (Elt F) Λ₀ .tc) PUnit :=
  cc0__fsq_body i arg2 harg2 arg3 harg3 arg4 harg4 arg5 harg5 arg6 harg6 outM (Memref.isWhole_whole _) bufM (Memref.isWhole_whole _) cc0_scratch1

section Runs
variable (i : grid0.Coords) (arg2 : Memref sig .tc .vmem S1x512x4096 .f32) (harg2 : arg2.IsWhole) (arg3 : Memref sig .tc .vmem S4x512 .f32) (harg3 : arg3.IsWhole)
  (arg4 : Memref sig .tc .vmem S512x4 .bf16) (harg4 : arg4.IsWhole) (arg5 : Memref sig .tc .vmem S4x6 .f32) (harg5 : arg5.IsWhole)
  (arg6 : Memref sig .tc .vmem S1x2x4096 .i32) (harg6 : arg6.IsWhole)
  (c : Dev nD)
  (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (V G : Buf (Elt F) ((c : Thread nD τ).loc main_v3_1))

/-- The staged inputs, unchanged by a point. -/
def inputsP : sProp 𝕄 := iprop(heldP c arg2 X2 ∗ heldP c arg3 X3 ∗ heldP c arg4 X4 ∗ heldP c arg5 X5)
/-- The block of indices after the point's stores. -/
def indicesP : sProp 𝕄 := heldP c arg6 (arg6.view.writes (Elt F) X6 (idxPieces (arg2.view.read (Elt F) X2) (arg3.view.read (Elt F) X3) (arg5.view.read (Elt F) X5)))
/-- `G` holds entry `i`'s tiles as the point computes them. -/
def HoldsTiles : Prop := ∀ j : Fin 4, (tile (entry i) j).view.read (Elt F) G
  = fun y => outCols (arg2.view.read (Elt F) X2) (arg3.view.read (Elt F) X3) (arg4.view.read (Elt F) X4) (arg5.view.read (Elt F) X5) j
      (Shape.reshapeEquiv squeezes_S1x512x1024_S512x1024.numel_eq y)

/-- The first point: the slots are free, nothing is waited for; the four copies go out. -/
theorem firstRun (hG : HoldsTiles i arg2 arg3 arg4 arg5 c X2 X3 X4 X5 G)
    (h1 : ¬ k0_cond1 i = 1#1) (h2 : ¬ k0_cond2 i = 1#1) (h3 : ¬ k0_cond3 i = 1#1) (h4 : ¬ k0_cond4 i = 1#1) (h5 : ¬ k0_cond5 i = 1#1)
    (K : PUnit → sProp 𝕄) :
    iprop((inputsP arg2 arg3 arg4 arg5 c X2 X3 X4 X5 ∗ heldP c arg6 X6
      ∗ rowP c (entry i) V
      ∗ slotsP c ∗ cellsP c
      ∗ (∃ W, owes (c : Thread nD τ) 0 W))
      ∗ ((inputsP arg2 arg3 arg4 arg5 c X2 X3 X4 X5 ∗ indicesP arg2 arg3 arg5 arg6 c X2 X3 X5 X6
      ∗ flightsP c (entry i) G
      ∗ (∃ W, owes (c : Thread nD τ) 0 W)) -∗ K ⟨⟩))
      ⊢ wp frame (wpE (defs₀ (F := F)) Variants.none (c : Thread nD τ) none) Set.univ (bodyOf i arg2 harg2 arg3 harg3 arg4 harg4 arg5 harg5 arg6 harg6) K := by
  unfold bodyOf inputsP
  rw [cc0__fsq_body_eq_skeleton]
  unfold cc0__fsq_body_skel
  rw [k0_part9_eq_skeleton, k0_part1_eq_skeleton]
  iintro ⟨⟨⟨H2, H3, H4, H5⟩, H6, ⟨HT0, HT1, HT2, HT3⟩, ⟨⟨%s0, HS0⟩, ⟨%s1, HS1⟩, ⟨%s2, HS2⟩, ⟨%s3, HS3⟩⟩, ⟨HC0, HC1, HC2, HC3⟩, ⟨%W, HW⟩⟩, Hk⟩
  sl_exec
  sl_step
  iapply Hk
  isplitl [H2 H3 H4 H5]
  · isplitl [H2]; · iexact H2
    isplitl [H3]; · iexact H3
    isplitl [H4]; · iexact H4
    iexact H5
  isplitl [H6]; · unfold indicesP; iexact H6
  isplitl [HC0 HC1 HC2 HC3]
  · isplitl [HC0]; · iapply (flightP_of c (entry i) 0 G V _ _ ((hG 0).trans (slot_read 0 c _ _ _).symm)); iexact HC0
    isplitl [HC1]; · iapply (flightP_of c (entry i) 1 G V _ _ ((hG 1).trans (slot_read 1 c _ _ _).symm)); iexact HC1
    isplitl [HC2]; · iapply (flightP_of c (entry i) 2 G V _ _ ((hG 2).trans (slot_read 2 c _ _ _).symm)); iexact HC2
    iapply (flightP_of c (entry i) 3 G V _ _ ((hG 3).trans (slot_read 3 c _ _ _).symm)); iexact HC3
  iexists _; iexact HW

/-- A middle point: each slot waits for the copy under way in it, then takes the point's own tile out. -/
theorem midRun (hG : HoldsTiles i arg2 arg3 arg4 arg5 c X2 X3 X4 X5 G)
    (h1 : k0_cond1 i = 1#1) (h2 : k0_cond2 i = 1#1) (h3 : k0_cond3 i = 1#1) (h4 : k0_cond4 i = 1#1) (h5 : ¬ k0_cond5 i = 1#1)
    (b : Fin 8) (K : PUnit → sProp 𝕄) :
    iprop((inputsP arg2 arg3 arg4 arg5 c X2 X3 X4 X5 ∗ heldP c arg6 X6
      ∗ rowP c (entry i) V
      ∗ flightsP c b G
      ∗ (∃ W, owes (c : Thread nD τ) 0 W))
      ∗ ((inputsP arg2 arg3 arg4 arg5 c X2 X3 X4 X5 ∗ indicesP arg2 arg3 arg5 arg6 c X2 X3 X5 X6
      ∗ flightsP c (entry i) G
      ∗ rowP c b G
      ∗ (∃ W, owes (c : Thread nD τ) 0 W)) -∗ K ⟨⟩))
      ⊢ wp frame (wpE (defs₀ (F := F)) Variants.none (c : Thread nD τ) none) Set.univ (bodyOf i arg2 harg2 arg3 harg3 arg4 harg4 arg5 harg5 arg6 harg6) K := by
  unfold bodyOf inputsP
  rw [cc0__fsq_body_eq_skeleton]
  unfold cc0__fsq_body_skel
  rw [k0_part9_eq_skeleton, k0_part1_eq_skeleton]
  iintro ⟨⟨⟨H2, H3, H4, H5⟩, H6, ⟨HT0, HT1, HT2, HT3⟩, ⟨⟨%s0, HC0⟩, ⟨%s1, HC1⟩, ⟨%s2, HC2⟩, ⟨%s3, HC3⟩⟩, ⟨%W, HW⟩⟩, Hk⟩
  sl_exec
  sl_step
  iapply Hk
  isplitl [H2 H3 H4 H5]
  · isplitl [H2]; · iexact H2
    isplitl [H3]; · iexact H3
    isplitl [H4]; · iexact H4
    iexact H5
  isplitl [H6]; · unfold indicesP; iexact H6
  isplitl [HC0 HC1 HC2 HC3]
  · isplitl [HC0]; · iapply (flightP_of c (entry i) 0 G V _ _ ((hG 0).trans (slot_read 0 c _ _ _).symm)); iexact HC0
    isplitl [HC1]; · iapply (flightP_of c (entry i) 1 G V _ _ ((hG 1).trans (slot_read 1 c _ _ _).symm)); iexact HC1
    isplitl [HC2]; · iapply (flightP_of c (entry i) 2 G V _ _ ((hG 2).trans (slot_read 2 c _ _ _).symm)); iexact HC2
    iapply (flightP_of c (entry i) 3 G V _ _ ((hG 3).trans (slot_read 3 c _ _ _).symm)); iexact HC3
  isplitl [HC0_dst HC1_dst HC2_dst HC3_dst]
  · isplitl [HC0_dst]; · iexact HC0_dst
    isplitl [HC1_dst]; · iexact HC1_dst
    isplitl [HC2_dst]; · iexact HC2_dst
    iexact HC3_dst
  iexists _; iexact HW

/-- The last point: as a middle one, and its own four copies are waited for: every tile is home, every slot and cell free. -/
theorem lastRun (hG : HoldsTiles i arg2 arg3 arg4 arg5 c X2 X3 X4 X5 G)
    (h1 : k0_cond1 i = 1#1) (h2 : k0_cond2 i = 1#1) (h3 : k0_cond3 i = 1#1) (h4 : k0_cond4 i = 1#1) (h5 : k0_cond5 i = 1#1)
    (b : Fin 8) (K : PUnit → sProp 𝕄) :
    iprop((inputsP arg2 arg3 arg4 arg5 c X2 X3 X4 X5 ∗ heldP c arg6 X6
      ∗ rowP c (entry i) V
      ∗ flightsP c b G
      ∗ (∃ W, owes (c : Thread nD τ) 0 W))
      ∗ ((inputsP arg2 arg3 arg4 arg5 c X2 X3 X4 X5 ∗ indicesP arg2 arg3 arg5 arg6 c X2 X3 X5 X6
      ∗ rowP c (entry i) G
      ∗ slotsP c ∗ cellsP c
      ∗ rowP c b G
      ∗ (∃ W, owes (c : Thread nD τ) 0 W)) -∗ K ⟨⟩))
      ⊢ wp frame (wpE (defs₀ (F := F)) Variants.none (c : Thread nD τ) none) Set.univ (bodyOf i arg2 harg2 arg3 harg3 arg4 harg4 arg5 harg5 arg6 harg6) K := by
  unfold bodyOf inputsP
  rw [cc0__fsq_body_eq_skeleton]
  unfold cc0__fsq_body_skel
  rw [k0_part9_eq_skeleton, k0_part1_eq_skeleton]
  iintro ⟨⟨⟨H2, H3, H4, H5⟩, H6, ⟨HT0, HT1, HT2, HT3⟩, ⟨⟨%s0, HC0⟩, ⟨%s1, HC1⟩, ⟨%s2, HC2⟩, ⟨%s3, HC3⟩⟩, ⟨%W, HW⟩⟩, Hk⟩
  sl_exec
  sl_step
  iapply Hk
  isplitl [H2 H3 H4 H5]
  · isplitl [H2]; · iexact H2
    isplitl [H3]; · iexact H3
    isplitl [H4]; · iexact H4
    iexact H5
  isplitl [H6]; · unfold indicesP; iexact H6
  isplitl [HT0 HT1 HT2 HT3]
  · isplitl [HT0]; · iapply (entails_of_eq (tileP_congr c (entry i) 0 _ G ((View.read_writes_whole _ _ _).trans ((hG 0).trans (slot_read 0 c _ _ _).symm).symm))); iexact HT0
    isplitl [HT1]; · iapply (entails_of_eq (tileP_congr c (entry i) 1 _ G ((View.read_writes_whole _ _ _).trans ((hG 1).trans (slot_read 1 c _ _ _).symm).symm))); iexact HT1
    isplitl [HT2]; · iapply (entails_of_eq (tileP_congr c (entry i) 2 _ G ((View.read_writes_whole _ _ _).trans ((hG 2).trans (slot_read 2 c _ _ _).symm).symm))); iexact HT2
    iapply (entails_of_eq (tileP_congr c (entry i) 3 _ G ((View.read_writes_whole _ _ _).trans ((hG 3).trans (slot_read 3 c _ _ _).symm).symm))); iexact HT3
  isplitl [HC0_src HC1_src HC2_src HC3_src]
  · isplitl [HC0_src]; · iexists _; iexact HC0_src
    isplitl [HC1_src]; · iexists _; iexact HC1_src
    isplitl [HC2_src]; · iexists _; iexact HC2_src
    iexists _; iexact HC3_src
  isplitl [HC0 HC1 HC2 HC3]
  · isplitl [HC0]; · iexact HC0
    isplitl [HC1]; · iexact HC1
    isplitl [HC2]; · iexact HC2
    iexact HC3
  isplitl [HC0_dst HC1_dst HC2_dst HC3_dst]
  · isplitl [HC0_dst]; · iexact HC0_dst
    isplitl [HC1_dst]; · iexact HC1_dst
    isplitl [HC2_dst]; · iexact HC2_dst
    iexact HC3_dst
  iexists _; iexact HW

end Runs

end Cert.Proof.KI

end
-- ==== Proof.KI.Ring.lean ====
/-
  Between points: which tiles of the result are still as the region found them, which have been delivered, and which are being
  copied. The result and the scratch ring, each held whole, are their tiles and slots.
-/
module

public import proofs.«01_k».proof.Proof.KI.Run
public import Idealize.ShloMosaic.Lib.Ring.WriteBehind

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Elements of a tile, of an entry and of a slot -/

abbrev tileSet (b : Fin 8) (j : Fin 4) : Finset S8x512x4096.Idx := (Rect.unit (s := S8x512x4096) (tileOff b j) S1x512x1024.size (tileOff_inb b j)).set
abbrev slotSet (j : Fin 4) : Finset S4x512x1024.Idx := (Rect.unit (s := S4x512x1024) (slotOff j) S1x512x1024.size (slotOff_inb j)).set
/-- The elements of entry `b`. -/
def entrySet (b : Fin 8) : Finset S8x512x4096.Idx := Finset.univ.filter fun y => (y 0).val = b.val

theorem tile_set (b : Fin 8) (j : Fin 4) : (tile b j).view.set = tileSet b j := (View.set_reshape _ _).trans (View.set_slice_whole _ _)
theorem slot_set (j : Fin 4) : (slot j).view.set = slotSet j := (View.set_reshape _ _).trans (View.set_slice_whole _ _)

theorem mem_tileSet (b : Fin 8) (j : Fin 4) (y : S8x512x4096.Idx) : y ∈ tileSet b j ↔ (y 0).val = b.val ∧ (y 2).val / 1024 = j.val := by
  rw [Rect.mem_set_unit]
  have h1 : (y 1).val < 512 := (y 1).isLt
  constructor
  · intro H
    have a0 : b.val ≤ (y 0).val ∧ (y 0).val < b.val + 1 := H 0
    have a2 : 1024 * j.val ≤ (y 2).val ∧ (y 2).val < 1024 * j.val + 1024 := H 2
    omega
  · rintro ⟨H0, H2⟩ a; fin_cases a
    · show b.val ≤ (y 0).val ∧ (y 0).val < b.val + 1; omega
    · show 0 ≤ (y 1).val ∧ (y 1).val < 0 + 512; omega
    · show 1024 * j.val ≤ (y 2).val ∧ (y 2).val < 1024 * j.val + 1024; omega
theorem mem_slotSet (j : Fin 4) (y : S4x512x1024.Idx) : y ∈ slotSet j ↔ (y 0).val = j.val := by
  rw [Rect.mem_set_unit]
  have h1 : (y 1).val < 512 := (y 1).isLt
  have h2 : (y 2).val < 1024 := (y 2).isLt
  constructor
  · intro H; have a0 : j.val ≤ (y 0).val ∧ (y 0).val < j.val + 1 := H 0; omega
  · intro H a; fin_cases a
    · show j.val ≤ (y 0).val ∧ (y 0).val < j.val + 1; omega
    · show 0 ≤ (y 1).val ∧ (y 1).val < 0 + 512; omega
    · show 0 ≤ (y 2).val ∧ (y 2).val < 0 + 1024; omega
theorem mem_entrySet (b : Fin 8) (y : S8x512x4096.Idx) : y ∈ entrySet b ↔ (y 0).val = b.val := by
  simp only [entrySet, Finset.mem_filter, Finset.mem_univ, true_and]

theorem tileSet_disjoint (b : Fin 8) : ∀ j j' : Fin 4, j ≠ j' → Disjoint (tileSet b j) (tileSet b j') := by
  intro j j' hne; rw [Finset.disjoint_left]; intro y hy hy'; rw [mem_tileSet] at hy hy'; exact hne (Fin.ext (hy.2.symm.trans hy'.2))
theorem tileSet_cover (b : Fin 8) : (Finset.univ : Finset (Fin 4)).biUnion (tileSet b) = entrySet b := by
  ext y; simp only [Finset.mem_biUnion, Finset.mem_univ, true_and, mem_entrySet, mem_tileSet]
  have h2 : (y 2).val < 4096 := (y 2).isLt
  exact ⟨fun ⟨_, h, _⟩ => h, fun h => ⟨⟨(y 2).val / 1024, by omega⟩, h, rfl⟩⟩
theorem entrySet_disjoint : ∀ b b' : Fin 8, b ≠ b' → Disjoint (entrySet b) (entrySet b') := by
  intro b b' hne; rw [Finset.disjoint_left]; intro y hy hy'; rw [mem_entrySet] at hy hy'; exact hne (Fin.ext (hy.symm.trans hy'))
theorem entrySet_cover : (Finset.univ : Finset (Fin 8)).biUnion entrySet = Finset.univ := by
  ext y; simp only [Finset.mem_biUnion, Finset.mem_univ, true_and, iff_true]; exact ⟨(y 0).cast (by decide), by rw [mem_entrySet]; rfl⟩
theorem slotSet_disjoint : ∀ j j' : Fin 4, j ≠ j' → Disjoint (slotSet j) (slotSet j') := by
  intro j j' hne; rw [Finset.disjoint_left]; intro y hy hy'; rw [mem_slotSet] at hy hy'; exact hne (Fin.ext (hy.symm.trans hy'))
theorem slotSet_cover : (Finset.univ : Finset (Fin 4)).biUnion slotSet = Finset.univ := by
  ext y; simp only [Finset.mem_biUnion, Finset.mem_univ, true_and, iff_true]; exact ⟨(y 0).cast (by decide), by rw [mem_slotSet]; rfl⟩

theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

theorem bigSep_cons {a : Fin 8} {s : Finset (Fin 8)} {Φ : Fin 8 → sProp 𝕄} (h : a ∉ s) : bigSep (insert a s) Φ = iprop(Φ a ∗ bigSep s Φ) :=
  BI.bigSep_insert h

/-! ## Whole buffers as their parts -/

/-- The result held whole is its eight entries' tiles. -/
theorem out_rows (c : Dev nD) (f : Buf (Elt F) ((c : Thread nD τ).loc main_v3_1)) :
    (((c : Thread nD τ).loc main_v3_1) ↦{fullShare} f : sProp 𝕄) = bigSep Finset.univ fun b : Fin 8 => rowP c b f := by
  rw [Ring.pointsTo_blocks (ℓ := (c : Thread nD τ).loc main_v3_1) entrySet entrySet_disjoint entrySet_cover]
  refine bigSep_congr fun b _ => ?_
  rw [Ring.pointsTo_sub_blocks (ℓ := (c : Thread nD τ).loc main_v3_1) (tileSet b) (tileSet_disjoint b) (entrySet b) (tileSet_cover b), bigSep_four]
  simp only [← tile_set]; rfl

theorem slotP_eq (c : Dev nD) (j : Fin 4) (f) : (slotP c j f : sProp 𝕄) = (((c : Thread nD τ).loc cc0_scratch0) ↦[slotSet j]{fullShare} f) :=
  congrArg (fun S => (_ ↦[S]{fullShare} f : sProp 𝕄)) (slot_set j)
/-- The ring held whole, at anything, is its four slots, -/
theorem ring_split (c : Dev nD) :
    iprop(∃ f : Buf (Elt F) ((c : Thread nD τ).loc cc0_scratch0), ((c : Thread nD τ).loc cc0_scratch0) ↦{fullShare} f) ⊢ (slotsP c : sProp 𝕄) := by
  iintro ⟨%f, H⟩
  ihave H4 := (entails_of_eq ((Ring.pointsTo_blocks (Ix := Unit) (Name := ℕ) (U := Pipeline.UD sig nD τ) (Lvl := ℕ) (q := fullShare) (ℓ := (c : Thread nD τ).loc cc0_scratch0) slotSet slotSet_disjoint slotSet_cover f).trans (bigSep_four _))) $$ H
  icases H4 with ⟨H0, H1, H2, H3⟩
  isplitl [H0]
  · iexists f; iapply (entails_of_eq (slotP_eq c 0 f).symm); iexact H0
  isplitl [H1]
  · iexists f; iapply (entails_of_eq (slotP_eq c 1 f).symm); iexact H1
  isplitl [H2]
  · iexists f; iapply (entails_of_eq (slotP_eq c 2 f).symm); iexact H2
  iexists f; iapply (entails_of_eq (slotP_eq c 3 f).symm); iexact H3
/-- and back. -/
theorem ring_join (c : Dev nD) :
    (slotsP c : sProp 𝕄) ⊢ iprop(∃ f : Buf (Elt F) ((c : Thread nD τ).loc cc0_scratch0), ((c : Thread nD τ).loc cc0_scratch0) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch0) slotSet slotSet_disjoint slotSet_cover f0)
  irw [bigSep_four]
  isplitl [H0]
  · iexists f0; iapply (entails_of_eq (slotP_eq c 0 f0)); iexact H0
  isplitl [H1]
  · iexists f1; iapply (entails_of_eq (slotP_eq c 1 f1)); iexact H1
  isplitl [H2]
  · iexists f2; iapply (entails_of_eq (slotP_eq c 2 f2)); iexact H2
  iexists f3; iapply (entails_of_eq (slotP_eq c 3 f3)); iexact H3

/-! ## What is held before point `k` -/

section Inv
variable (c : Dev nD) (V G : Buf (Elt F) ((c : Thread nD τ).loc main_v3_1))

/-- Before point `k`: entries from `k` on at `V`; entries before `k - 1` at `G`; entry `k - 1` being copied out. Before the first
    point every slot is free, and after the last one again. -/
def ringP (k : ℕ) : sProp 𝕄 :=
  if k = 0 then iprop(bigSep Finset.univ (fun b : Fin 8 => rowP c b V) ∗ slotsP c ∗ cellsP c)
  else if k < 8 then iprop(bigSep (Ring.aheadSet (NB := 8) k) (fun b => rowP c b V) ∗ bigSep (Ring.behindSet (NB := 8) 1 k) (fun b => rowP c b G)
    ∗ flightsP c (Ring.bk 8 (k - 1)) G)
  else iprop(bigSep Finset.univ (fun b : Fin 8 => rowP c b G) ∗ slotsP c ∗ cellsP c)

theorem ringP_zero : ringP c V G 0 = iprop(bigSep Finset.univ (fun b : Fin 8 => rowP c b V) ∗ slotsP c ∗ cellsP c) := if_pos rfl
theorem ringP_mid (k : ℕ) (h0 : k ≠ 0) (h8 : k < 8) : ringP c V G k
    = iprop(bigSep (Ring.aheadSet (NB := 8) k) (fun b => rowP c b V) ∗ bigSep (Ring.behindSet (NB := 8) 1 k) (fun b => rowP c b G) ∗ flightsP c (Ring.bk 8 (k - 1)) G) := by
  unfold ringP; rw [if_neg h0, if_pos h8]
theorem ringP_end : ringP c V G 8 = iprop(bigSep Finset.univ (fun b : Fin 8 => rowP c b G) ∗ slotsP c ∗ cellsP c) := by
  unfold ringP; rw [if_neg (by decide), if_neg (by decide)]

/-- The first point takes entry 0's tiles and the free slots, -/
theorem first_open : ringP c V G 0 ⊢ iprop(rowP c (Ring.bk 8 0) V ∗ slotsP c ∗ cellsP c ∗ bigSep (Ring.aheadSet (NB := 8) 1) (fun b => rowP c b V)) := by
  rw [ringP_zero, ← Ring.aheadSet_zero, Ring.aheadSet_open 0 (by decide), bigSep_cons (Ring.bk_not_mem_aheadSet_succ 0 (by decide))]
  iintro ⟨⟨H0, Ha⟩, Hs, Hc⟩
  isplitl [H0]; · iexact H0
  isplitl [Hs]; · iexact Hs
  isplitl [Hc]; · iexact Hc
  iexact Ha
/-- and leaves its copies under way. -/
theorem first_close : iprop(flightsP c (Ring.bk 8 0) G ∗ bigSep (Ring.aheadSet (NB := 8) 1) (fun b => rowP c b V)) ⊢ ringP c V G 1 := by
  rw [ringP_mid c V G 1 (by decide) (by decide), Ring.behindSet_boot (d := 1) 1 le_rfl, bigSep_empty]
  iintro ⟨HF, Ha⟩
  isplitl [Ha]; · iexact Ha
  isplitr; · iempintro
  iexact HF
/-- A later point takes its entry's tiles and the copies under way, -/
theorem mid_open (k : ℕ) (h0 : k ≠ 0) (h8 : k < 8) : ringP c V G k
    ⊢ iprop(rowP c (Ring.bk 8 k) V ∗ flightsP c (Ring.bk 8 (k - 1)) G ∗ bigSep (Ring.aheadSet (NB := 8) (k + 1)) (fun b => rowP c b V) ∗ bigSep (Ring.behindSet (NB := 8) 1 k) (fun b => rowP c b G)) := by
  rw [ringP_mid c V G k h0 h8, Ring.aheadSet_open k h8, bigSep_cons (Ring.bk_not_mem_aheadSet_succ k h8)]
  iintro ⟨⟨H0, Ha⟩, Hb, Hf⟩
  isplitl [H0]; · iexact H0
  isplitl [Hf]; · iexact Hf
  isplitl [Ha]; · iexact Ha
  iexact Hb
/-- a middle one leaves its own under way and the previous entry delivered; -/
theorem mid_close (k : ℕ) (h0 : k ≠ 0) (h7 : k + 1 < 8) :
    iprop(flightsP c (Ring.bk 8 k) G ∗ rowP c (Ring.bk 8 (k - 1)) G ∗ bigSep (Ring.aheadSet (NB := 8) (k + 1)) (fun b => rowP c b V) ∗ bigSep (Ring.behindSet (NB := 8) 1 k) (fun b => rowP c b G))
      ⊢ ringP c V G (k + 1) := by
  rw [ringP_mid c V G (k + 1) (by omega) h7, Ring.behindSet_close (d := 1) k (by omega) (by omega), bigSep_cons (Ring.bk_not_mem_behindSet (d := 1) k (by omega) (by omega)), Nat.add_sub_cancel]
  iintro ⟨Hf, H0, Ha, Hb⟩
  isplitl [Ha]; · iexact Ha
  isplitl [H0 Hb]
  · isplitl [H0]; · iexact H0
    iexact Hb
  iexact Hf
/-- the last one leaves everything delivered. -/
theorem last_close :
    iprop(rowP c (Ring.bk 8 7) G ∗ slotsP c ∗ cellsP c ∗ rowP c (Ring.bk 8 6) G ∗ bigSep (Ring.aheadSet (NB := 8) 8) (fun b => rowP c b V) ∗ bigSep (Ring.behindSet (NB := 8) 1 7) (fun b => rowP c b G))
      ⊢ ringP c V G 8 := by
  rw [ringP_end, Ring.aheadSet_end 8 le_rfl, bigSep_empty,
    show (Finset.univ : Finset (Fin 8)) = insert (Ring.bk 8 7) (insert (Ring.bk 8 6) (Ring.behindSet 1 7)) by decide,
    bigSep_cons (by decide), bigSep_cons (by decide)]
  iintro ⟨H7, Hs, Hc, H6, -, Hb⟩
  isplitl [H7 H6 Hb]
  · isplitl [H7]; · iexact H7
    isplitl [H6]; · iexact H6
    iexact Hb
  isplitl [Hs]; · iexact Hs
  iexact Hc
end Inv

end Cert.Proof.KI

end
-- ==== Proof.KI.Point.lean ====
/-
  Every point carries the invariant over; and what a point computes, element by element of its two blocks.
-/
module

public import proofs.«01_k».proof.Proof.KI.Ring
public import proofs.«01_k».proof.Proof.Gen.KernelIdeal.Frame

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation)

/-! ## Where a point stands -/

theorem entry_coords : ∀ t : Fin cfg0.N, entry (grid0.coords t) = Ring.bk 8 t.val := by decide +kernel
theorem cond1_iff : ∀ t : Fin cfg0.N, k0_cond1 (grid0.coords t) = 1#1 ↔ t.val ≠ 0 := by decide +kernel
theorem cond2_iff : ∀ t : Fin cfg0.N, k0_cond2 (grid0.coords t) = 1#1 ↔ t.val ≠ 0 := by decide +kernel
theorem cond3_iff : ∀ t : Fin cfg0.N, k0_cond3 (grid0.coords t) = 1#1 ↔ t.val ≠ 0 := by decide +kernel
theorem cond4_iff : ∀ t : Fin cfg0.N, k0_cond4 (grid0.coords t) = 1#1 ↔ t.val ≠ 0 := by decide +kernel
theorem cond5_iff : ∀ t : Fin cfg0.N, k0_cond5 (grid0.coords t) = 1#1 ↔ t.val = 7 := by decide +kernel

section Point
variable (arg2 : Memref sig .tc .vmem S1x512x4096 .f32) (harg2 : arg2.IsWhole) (arg3 : Memref sig .tc .vmem S4x512 .f32) (harg3 : arg3.IsWhole)
  (arg4 : Memref sig .tc .vmem S512x4 .bf16) (harg4 : arg4.IsWhole) (arg5 : Memref sig .tc .vmem S4x6 .f32) (harg5 : arg5.IsWhole)
  (arg6 : Memref sig .tc .vmem S1x2x4096 .i32) (harg6 : arg6.IsWhole)
  (c : Dev nD)
  (X2 : Buf (Elt F) (arg2.view.loc (c : Thread nD τ))) (X3 : Buf (Elt F) (arg3.view.loc (c : Thread nD τ)))
  (X4 : Buf (Elt F) (arg4.view.loc (c : Thread nD τ))) (X5 : Buf (Elt F) (arg5.view.loc (c : Thread nD τ)))
  (X6 : Buf (Elt F) (arg6.view.loc (c : Thread nD τ))) (V G : Buf (Elt F) ((c : Thread nD τ).loc main_v3_1))

/-- Every point carries the invariant over. -/
theorem pointRun (t : Fin cfg0.N) (hG : HoldsTiles (grid0.coords t) arg2 arg3 arg4 arg5 c X2 X3 X4 X5 G) (K : PUnit → sProp 𝕄) :
    iprop((inputsP arg2 arg3 arg4 arg5 c X2 X3 X4 X5 ∗ heldP c arg6 X6 ∗ ringP c V G t.val ∗ (∃ W, owes (c : Thread nD τ) 0 W))
      ∗ ((inputsP arg2 arg3 arg4 arg5 c X2 X3 X4 X5 ∗ indicesP arg2 arg3 arg5 arg6 c X2 X3 X5 X6 ∗ ringP c V G (t.val + 1)
        ∗ (∃ W, owes (c : Thread nD τ) 0 W)) -∗ K ⟨⟩))
      ⊢ wp frame (wpE (defs₀ (F := F)) Variants.none (c : Thread nD τ) none) Set.univ
        (bodyOf (grid0.coords t) arg2 harg2 arg3 harg3 arg4 harg4 arg5 harg5 arg6 harg6) K := by
  have ht : t.val < 8 := Nat.lt_of_lt_of_eq t.isLt N_0
  by_cases h0 : t.val = 0
  · iintro ⟨⟨HI, H6, HR, HW⟩, Hk⟩
    rw [h0]
    ihave HR' := (first_open c V G) $$ HR
    icases HR' with ⟨Hrow, Hs, Hc, Ha⟩
    iapply (firstRun (grid0.coords t) arg2 harg2 arg3 harg3 arg4 harg4 arg5 harg5 arg6 harg6 c X2 X3 X4 X5 X6 V G hG
      (by rw [cond1_iff]; omega) (by rw [cond2_iff]; omega) (by rw [cond3_iff]; omega) (by rw [cond4_iff]; omega) (by rw [cond5_iff]; omega) K)
    rw [entry_coords t, h0]
    isplitl [HI H6 Hrow Hs Hc HW]
    · isplitl [HI]; · iexact HI
      isplitl [H6]; · iexact H6
      isplitl [Hrow]; · iexact Hrow
      isplitl [Hs]; · iexact Hs
      isplitl [Hc]; · iexact Hc
      iexact HW
    iintro ⟨HI, H6, Hf, HW⟩
    iapply Hk
    isplitl [HI]; · iexact HI
    isplitl [H6]; · iexact H6
    isplitl [Hf Ha]
    · iapply (first_close c V G)
      isplitl [Hf]; · iexact Hf
      iexact Ha
    iexact HW
  by_cases h7 : t.val = 7
  · iintro ⟨⟨HI, H6, HR, HW⟩, Hk⟩
    ihave HR' := (mid_open c V G t.val h0 ht) $$ HR
    icases HR' with ⟨Hrow, Hf, Ha, Hb⟩
    iapply (lastRun (grid0.coords t) arg2 harg2 arg3 harg3 arg4 harg4 arg5 harg5 arg6 harg6 c X2 X3 X4 X5 X6 V G hG
      (by rw [cond1_iff]; omega) (by rw [cond2_iff]; omega) (by rw [cond3_iff]; omega) (by rw [cond4_iff]; omega) (by rw [cond5_iff]; omega)
      (Ring.bk 8 (t.val - 1)) K)
    rw [entry_coords t]
    isplitl [HI H6 Hrow Hf HW]
    · isplitl [HI]; · iexact HI
      isplitl [H6]; · iexact H6
      isplitl [Hrow]; · iexact Hrow
      isplitl [Hf]; · iexact Hf
      iexact HW
    rw [h7]
    iintro ⟨HI, H6, Hrow, Hs, Hc, Hrow', HW⟩
    iapply Hk
    isplitl [HI]; · iexact HI
    isplitl [H6]; · iexact H6
    isplitl [Hrow Hs Hc Hrow' Ha Hb]
    · iapply (last_close c V G)
      isplitl [Hrow]; · iexact Hrow
      isplitl [Hs]; · iexact Hs
      isplitl [Hc]; · iexact Hc
      isplitl [Hrow']; · iexact Hrow'
      isplitl [Ha]; · iexact Ha
      iexact Hb
    iexact HW
  · iintro ⟨⟨HI, H6, HR, HW⟩, Hk⟩
    ihave HR' := (mid_open c V G t.val h0 ht) $$ HR
    icases HR' with ⟨Hrow, Hf, Ha, Hb⟩
    iapply (midRun (grid0.coords t) arg2 harg2 arg3 harg3 arg4 harg4 arg5 harg5 arg6 harg6 c X2 X3 X4 X5 X6 V G hG
      (by rw [cond1_iff]; omega) (by rw [cond2_iff]; omega) (by rw [cond3_iff]; omega) (by rw [cond4_iff]; omega) (by rw [cond5_iff]; omega)
      (Ring.bk 8 (t.val - 1)) K)
    rw [entry_coords t]
    isplitl [HI H6 Hrow Hf HW]
    · isplitl [HI]; · iexact HI
      isplitl [H6]; · iexact H6
      isplitl [Hrow]; · iexact Hrow
      isplitl [Hf]; · iexact Hf
      iexact HW
    iintro ⟨HI, H6, Hf, Hrow', HW⟩
    iapply Hk
    isplitl [HI]; · iexact HI
    isplitl [H6]; · iexact H6
    isplitl [Hf Hrow' Ha Hb]
    · iapply (mid_close c V G t.val h0 (by omega))
      isplitl [Hf]; · iexact Hf
      isplitl [Hrow']; · iexact Hrow'
      isplitl [Ha]; · iexact Ha
      iexact Hb
    iexact HW
end Point

/-! ## A point's two blocks -/

/-- The place of row `r`, column `l` in a tile. -/
def tileIx (r : Fin 512) (l : Fin 1024) : S1x512x1024.Idx := fun | 0 => ⟨0, by decide⟩ | 1 => r | 2 => l
/-- The place of column `l` in a row of a tile of indices. -/
def rowIx (l : Fin 1024) : S1x1x1024.Idx := fun | 0 => ⟨0, by decide⟩ | 1 => ⟨0, by decide⟩ | 2 => l
theorem tileIx_eq (z : S1x512x1024.Idx) : tileIx (z 1) (z 2) = z := by
  funext a; apply Fin.ext; fin_cases a
  · have h : (z 0).val < 1 := (z 0).isLt
    show 0 = (z 0).val; omega
  · rfl
  · rfl
theorem rowIx_eq (z : S1x1x1024.Idx) : rowIx (z 2) = z := by
  funext a; apply Fin.ext; fin_cases a
  · have h : (z 0).val < 1 := (z 0).isLt
    show 0 = (z 0).val; omega
  · have h : (z 1).val < 1 := (z 1).isLt
    show 0 = (z 1).val; omega
  · rfl

section Blocks
variable (X2 : S1x512x4096.Idx → Elt F .f32) (X3 : S4x512.Idx → Elt F .f32) (X4 : S512x4.Idx → Elt F .bf16) (X5 : S4x6.Idx → Elt F .f32)
/-- The point's output at row `r`, column `l` of 4096. -/
def outAtCol (r : Fin 512) (l : Fin 4096) : Elt F .f32 :=
  outCols X2 X3 X4 X5 ⟨l.val / 1024, by omega⟩ (tileIx r ⟨l.val % 1024, by omega⟩)
/-- The point's block of indices. -/
def idxBlock : S1x2x4096.Idx → Elt F .i32 := fun y =>
  idxRow X2 X3 X5 (y 1) ⟨(y 2).val / 1024, by have h : (y 2).val < 4096 := (y 2).isLt; omega⟩ (rowIx ⟨(y 2).val % 1024, by omega⟩)

theorem outAtCol_of (r : Fin 512) (l : Fin 4096) (j : Fin 4) (z : S1x512x1024.Idx) (hr : r.val = (z 1).val) (hl : l.val = 1024 * j.val + (z 2).val) :
    outAtCol X2 X3 X4 X5 r l = outCols X2 X3 X4 X5 j z := by
  have h2 : (z 2).val < 1024 := (z 2).isLt
  unfold outAtCol
  rw [show (⟨l.val / 1024, by omega⟩ : Fin 4) = j from Fin.ext (by show l.val / 1024 = j.val; omega),
    show tileIx r ⟨l.val % 1024, by omega⟩ = z from by
      refine Eq.trans ?_ (tileIx_eq z); exact congr (congrArg tileIx (Fin.ext hr)) (Fin.ext (by show l.val % 1024 = (z 2).val; omega))]
theorem idxBlock_of (y : S1x2x4096.Idx) (q : Fin 2) (j : Fin 4) (z : S1x1x1024.Idx) (hq : (y 1).val = q.val) (hl : (y 2).val = 1024 * j.val + (z 2).val) :
    idxBlock X2 X3 X5 y = idxRow X2 X3 X5 q j z := by
  have h2 : (z 2).val < 1024 := (z 2).isLt
  have h3 : (y 2).val < 4096 := (y 2).isLt
  unfold idxBlock
  rw [show (y 1 : Fin 2) = q from Fin.ext hq, show (⟨(y 2).val / 1024, by omega⟩ : Fin 4) = j from Fin.ext (by show (y 2).val / 1024 = j.val; omega),
    show rowIx ⟨(y 2).val % 1024, by omega⟩ = z from by
      refine Eq.trans ?_ (rowIx_eq z); exact congrArg rowIx (Fin.ext (by show (y 2).val % 1024 = (z 2).val; omega))]

theorem idxPiece_agrees (q : Fin 2) (j : Fin 4) : ∀ x : (idxPiece X2 X3 X5 q j).1.shape.Idx,
    (idxPiece X2 X3 X5 q j).2 x = idxBlock X2 X3 X5 ((idxPiece X2 X3 X5 q j).1.emb x) := fun x => by
  have h1 : (x 1).val < 1 := (x 1).isLt
  exact (idxBlock_of X2 X3 X5 _ q j x (by show q.val + 1 * (x 1).val = q.val; omega) (by show 1024 * j.val + 1 * (x 2).val = _; rw [Nat.one_mul])).symm
theorem idxPieces_mem (p : View.Piece (Elt F) S1x2x4096 .i32) : p ∈ idxPieces X2 X3 X5 ↔ ∃ q j, p = idxPiece X2 X3 X5 q j := by
  simp only [idxPieces, List.mem_cons, List.mem_nil_iff, or_false]
  constructor
  · rintro (h | h | h | h | h | h | h | h) <;> exact ⟨_, _, h⟩
  · rintro ⟨q, j, rfl⟩; fin_cases q <;> fin_cases j <;> simp
/-- The stores into the block of indices leave the block. -/
theorem read_idxPieces {sp : Space} (v : View sig .tc sp S1x2x4096 .i32) (f) :
    v.read (Elt F) (v.writes (Elt F) f (idxPieces X2 X3 X5)) = idxBlock X2 X3 X5 := by
  funext y
  refine View.read_writes_apply_of_pieces v f (idxBlock X2 X3 X5) _ (fun p hp => ?_) y ?_
  · obtain ⟨q, j, rfl⟩ := (idxPieces_mem X2 X3 X5 p).mp hp
    exact idxPiece_agrees X2 X3 X5 q j
  · have h2 : (y 2).val < 4096 := (y 2).isLt
    have h1 : (y 1).val < 2 := (y 1).isLt
    have h0 : (y 0).val < 1 := (y 0).isLt
    refine ⟨idxPiece X2 X3 X5 (y 1) ⟨(y 2).val / 1024, by omega⟩, (idxPieces_mem X2 X3 X5 _).mpr ⟨_, _, rfl⟩, ?_⟩
    unfold idxPiece
    rw [Rect.mem_set_unit]
    intro a; fin_cases a
    · show 0 ≤ (y 0).val ∧ (y 0).val < 0 + 1; omega
    · show (y 1).val ≤ (y 1).val ∧ (y 1).val < (y 1).val + 1; omega
    · show 1024 * ((y 2).val / 1024) ≤ (y 2).val ∧ (y 2).val < 1024 * ((y 2).val / 1024) + 1024; omega
end Blocks

end Cert.Proof.KI

end
-- ==== Proof.KI.Launch.lean ====
/-
  What the region leaves in its two results, and the run: every execution ends with both results at these contents, the
  arguments unchanged and every counter at zero.
-/
module

public import proofs.«01_k».proof.Proof.KI.Point
public import Idealize.ShloMosaic.Lib.Pipeline.FrameSuffixV

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

abbrev blkX (c : Dev nD) (t : Fin cfg0.N) : S1x512x4096.Idx → Elt F .f32 := iblk m c 0 t
abbrev blkIn (c : Dev nD) (t : Fin cfg0.N) : S4x512.Idx → Elt F .f32 := iblk m c 1 t
abbrev blkOut (c : Dev nD) (t : Fin cfg0.N) : S512x4.Idx → Elt F .bf16 := iblk m c 2 t
abbrev blkTab (c : Dev nD) (t : Fin cfg0.N) : S4x6.Idx → Elt F .f32 := iblk m c 3 t

/-- The second result as the region leaves it. -/
def outG (c : Dev nD) : Buf (Elt F) ((c : Thread nD τ).loc main_v3_1) := fun y : S8x512x4096.Idx =>
  outAtCol (blkX m c ((y 0).cast N_0.symm)) (blkIn m c ((y 0).cast N_0.symm)) (blkOut m c ((y 0).cast N_0.symm)) (blkTab m c ((y 0).cast N_0.symm)) (y 1) (y 2)
/-- The first result's block at a point. -/
def idxG (c : Dev nD) (t : Fin cfg0.N) : S1x2x4096.Idx → Elt F .i32 := idxBlock (blkX m c t) (blkIn m c t) (blkTab m c t)

theorem outG_at (c : Dev nD) (t : Fin cfg0.N) (j : Fin 4) (y : S8x512x4096.Idx) (z : S1x512x1024.Idx) (h0 : (y 0).val = t.val) (h1 : (y 1).val = (z 1).val)
    (h2 : (y 2).val = 1024 * j.val + (z 2).val) : outG m c y = outCols (blkX m c t) (blkIn m c t) (blkOut m c t) (blkTab m c t) j z := by
  unfold outG
  rw [show (y 0).cast N_0.symm = t from Fin.ext h0]
  exact outAtCol_of _ _ _ _ (y 1) (y 2) j z h1 h2

/-- The second result's tiles are what the points compute. -/
theorem holdsTiles (t : Fin cfg0.N) (arg2 : Memref sig .tc .vmem S1x512x4096 .f32) (arg3 : Memref sig .tc .vmem S4x512 .f32)
    (arg4 : Memref sig .tc .vmem S512x4 .bf16) (arg5 : Memref sig .tc .vmem S4x6 .f32) (c : Dev nD)
    (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (h2 : arg2.view.read (Elt F) X2 = blkX m c t) (h3 : arg3.view.read (Elt F) X3 = blkIn m c t)
    (h4 : arg4.view.read (Elt F) X4 = blkOut m c t) (h5 : arg5.view.read (Elt F) X5 = blkTab m c t) :
    HoldsTiles (grid0.coords t) arg2 arg3 arg4 arg5 c X2 X3 X4 X5 (outG m c) := fun j => by
  have ht : t.val < 8 := Nat.lt_of_lt_of_eq t.isLt N_0
  funext y
  rw [h2, h3, h4, h5]
  have key : ∀ z : S1x512x1024.Idx, outG m c ((Rect.unit (s := S8x512x4096) (tileOff (entry (grid0.coords t)) j) S1x512x1024.size (tileOff_inb _ j)).emb z)
      = outCols (blkX m c t) (blkIn m c t) (blkOut m c t) (blkTab m c t) j z := fun z => by
    have z0 : (z 0).val < 1 := (z 0).isLt
    refine outG_at m c t j _ z ?_ ?_ ?_
    · show (entry (grid0.coords t)).val + 1 * (z 0).val = t.val
      rw [entry_coords t, Ring.bk_val] <;> omega
    · show 0 + 1 * (z 1).val = (z 1).val; omega
    · show 1024 * j.val + 1 * (z 2).val = 1024 * j.val + (z 2).val; omega
  exact key _

/-! ## The proof data -/

/-- The four cells as the kernel's own semaphores. -/
def osem : Fin 4 → SemLoc sig := fun j => SemLoc.dma (cell j).sem
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄) = cellsP c := by
  unfold Pipeline.ownSems0; exact bigSep_four _

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => idxG m c t
  Φ k := ringP c (V m c main_v3_1) (outG m c) k.val
  q _ := fullShare
  owed _ := 0

theorem after_0 (c : Dev nD) (t) : (dats m 0 c).after 0 t = iblk m c 0 t := by dsimp only [dats]
theorem after_1 (c : Dev nD) (t) : (dats m 0 c).after 1 t = iblk m c 1 t := by dsimp only [dats]
theorem after_2 (c : Dev nD) (t) : (dats m 0 c).after 2 t = iblk m c 2 t := by dsimp only [dats]
theorem after_3 (c : Dev nD) (t) : (dats m 0 c).after 3 t = iblk m c 3 t := by dsimp only [dats]
theorem after_4 (c : Dev nD) (t) : (dats m 0 c).after 4 t = idxG m c t := by dsimp only [dats]
theorem A_eq (c : Dev nD) (w) : (dats m 0 c).A w = V m c (Pipeline.arrRef spec0 w) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

theorem defs_tc : (defs₀ (F := F)) .tc cfg0.body = fun a => bodyOf (grid0.coords a.1) (win0_0.stage (a.2 0)) (hstage0_0 ((a.2 0).cast nbuf0_0))
    (win0_1.stage (a.2 1)) (hstage0_1 ((a.2 1).cast nbuf0_1)) (win0_2.stage (a.2 2)) (hstage0_2 ((a.2 2).cast nbuf0_2))
    (win0_3.stage (a.2 3)) (hstage0_3 ((a.2 3).cast nbuf0_3)) (win0_4.stage (a.2 4)) (hstage0_4 ((a.2 4).cast nbuf0_4)) := rfl
abbrev bodyPt (t : Fin cfg0.N) : Prog (TpuEff nD τ sig (Elt F) Λ₀ .tc) PUnit :=
  bodyOf (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
theorem prog_eq (t : Fin cfg0.N) : (defs₀ (F := F)) .tc cfg0.body (cfg0.bodyArgs t (cfg0.slots t)) = bodyPt t :=
  (congrFun defs_tc _).trans rfl

set_option backward.isDefEq.respectTransparency.types false in
theorem body_obligation (c : Dev nD) : BodyObligation (dats (F := F) m 0 c) (defs₀ (F := F)) Variants.none () Set.univ := fun t => by
  rw [bigSep_W0, bigSep_W0]
  dsimp only
  simp only [before_0, before_1, before_2, before_3, after_0, after_1, after_2, after_3, after_4]
  rw [show (dats m 0 c).Φ t.castSucc = ringP c (V m c main_v3_1) (outG m c) t.val from rfl,
    show (dats m 0 c).Φ t.succ = ringP c (V m c main_v3_1) (outG m c) (t.val + 1) from rfl]
  unfold Dat.owesAt Pipeline.owesWithin
  rw [show (dats m 0 c).owed t.castSucc = 0 from rfl, show (dats m 0 c).owed t.succ = 0 from rfl]
  unfold owns
  iintro ⟨HR, ⟨%W, -, HW⟩, ⟨%d0, %g0, %hg0, H0⟩, ⟨%d1, %g1, %hg1, H1⟩, ⟨%d2, %g2, %hg2, H2⟩, ⟨%d3, %g3, %hg3, H3⟩, ⟨%d4, %g4, -, H4⟩⟩
  sl_rw [prog_eq t]
  iapply (pointRun (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    c g0 g1 g2 g3 g4 (V m c main_v3_1) (outG m c) t (holdsTiles m t (st0_0 t) (st0_1 t) (st0_2 t) (st0_3 t) c g0 g1 g2 g3 hg0 hg1 hg2 hg3))
  isplitl [HR HW H0 H1 H2 H3 H4]
  · isplitl [H0 H1 H2 H3]
    · unfold inputsP
      isplitl [H0]; · iexact H0
      isplitl [H1]; · iexact H1
      isplitl [H2]; · iexact H2
      iexact H3
    isplitl [H4]; · iexact H4
    isplitl [HR]; · iexact HR
    iexists W; iexact HW
  unfold inputsP indicesP
  iintro ⟨⟨H0, H1, H2, H3⟩, H4, HR, ⟨%W', HW⟩⟩
  isplitl [HR]; · iexact HR
  isplitl [HW]
  · iexists W'; isplitr; · ipureintro; exact fun _ _ => Or.inl trivial
    iexact HW
  isplitl [H0]
  · iexists g0; isplitr; · ipureintro; exact hg0
    iexact H0
  isplitl [H1]
  · iexists g1; isplitr; · ipureintro; exact hg1
    iexact H1
  isplitl [H2]
  · iexists g2; isplitr; · ipureintro; exact hg2
    iexact H2
  isplitl [H3]
  · iexists g3; isplitr; · ipureintro; exact hg3
    iexact H3
  iexists ((st0_4 t).view.writes (Elt F) g4 (idxPieces ((st0_0 t).view.read (Elt F) g0) ((st0_1 t).view.read (Elt F) g1) ((st0_3 t).view.read (Elt F) g3)))
  isplitr
  · ipureintro
    refine (read_idxPieces ((st0_0 t).view.read (Elt F) g0) ((st0_1 t).view.read (Elt F) g1) ((st0_3 t).view.read (Elt F) g3) (st0_4 t).view g4).trans ?_
    unfold idxG blkX blkIn blkTab
    rw [← hg0, ← hg1, ← hg3]
  iexact H4

/-! ## The run -/

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The buffer the kernel writes itself. -/
def written : Finset (Ref sig .tc) := {main_v3_1}
/-- What the kernel leaves there; elsewhere what the region found. -/
def leaves (c : Dev nD) (b : Ref sig .tc) : Buf (Elt F) ((c : Thread nD τ).loc b) :=
  if h : main_v3_1 = b then h ▸ outG m c else V m c b
theorem leaves_out (c : Dev nD) : leaves m c main_v3_1 = outG m c := by unfold leaves; rw [dif_pos rfl]

/-- What a buffer no window stages holds at the end. -/
def finalRest (c : Dev nD) (b : Ref sig .tc) : Buf (Elt F) ((c : Thread nD τ).loc b) :=
  StableHlo.after [hostOps1].flatten (Pipeline.withArrays spec0 c (Pipeline.withR (V0 m c) written c (leaves m c)) fun w => (dats m 0 c).arrAt w cfg0.N) (Proc.devRef .tc b)

set_option backward.isDefEq.respectTransparency.types false in
/-- Every execution ends: with each staged array as its write-backs leave it, every other buffer as the lines after the region
    leave it, and every counter at zero. -/
theorem run_main : θ_run defs (onTc (τ := τ) (main (F := F))) (s₀ m ρ) (fun r => (∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b) = finalRest m c b) ∧ r.2.sem = fun _ => 0) :=
  Pipeline.θ_run_frame_dmaR_aroundV cfgs (dats m) 0 launch0 osem defs₀ Variants.none ownSemFacts ∅ written
    (Finset.empty_subset _) (by decide) m ρ main
    (fun c => (body_obligation m c).loose) (fun c => (dats m 0 c).share_full fun _ => rfl) (fun _ _ => rfl)
    (V0 m) [hostOps1] sfx_sub sfx_fresh sfx_keeps (leaves m) (hmainD m) (fun _ _ => rfl)
    (fun c => by
      show Pipeline.ΦDRV osem spec0 ∅ written (fun c b => V0 m c (Proc.devRef .tc b)) (fun c b => V0 m c (Proc.devRef .tc b)) c ⊢ ringP c (V m c main_v3_1) (outG m c) 0
      unfold Pipeline.ΦDRV written
      rw [scopedRest0_eq, ownSems0_eq, ringP_zero, bigSep_singleton, out_rows]
      iintro ⟨Hs, Hc, -, HR⟩
      isplitl [HR]; · iexact HR
      isplitl [Hs]; · iapply (ring_split c); iexact Hs
      iexact Hc)
    (fun c => by
      show ringP c (V m c main_v3_1) (outG m c) 8 ⊢ Pipeline.ΦDRV osem spec0 ∅ written (fun c b => V0 m c (Proc.devRef .tc b)) (leaves m) c
      unfold Pipeline.ΦDRV written
      rw [scopedRest0_eq, ownSems0_eq, ringP_end, bigSep_singleton, bigSep_empty, leaves_out, out_rows]
      iintro ⟨HR, Hs, Hc⟩
      isplitl [Hs]; · iapply (ring_join c); iexact Hs
      isplitl [Hc]; · iexact Hc
      isplitr; · iempintro
      iexact HR)
    (Q' := fun r => (∀ c : Dev nD, (∀ w, r.2.mem ((spec0 w).arr.view.loc (c : Thread nD τ)) = (dats m 0 c).arrAt w cfg0.N)
      ∧ ∀ b ∈ Pipeline.restRefs sig spec0, r.2.mem ((c : Thread nD τ).loc b) = finalRest m c b) ∧ r.2.sem = fun _ => 0)
    (hQ' := fun _ h => h)

end Cert.Proof.KI

end
-- ==== Proof.KI.Frame.lean ====
/-
  The frame claim: the argument arrays end as they were and every counter at zero.
-/
module

public import proofs.«01_k».proof.Proof.KI.Launch
public import proofs.«01_k».proof.Defs

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer that no window stages, the kernel does not write and no line after the region writes ends as the region found it. -/
theorem rest_kept (c : Dev nD) (b : Ref sig .tc) (hw : ∀ op ∈ (hostOps1 : List (HloOp τ sig (Elt F))), Proc.devRef .tc b ∉ op.writes)
    (ha : ∀ w, Pipeline.arrRef spec0 w ≠ b) (hb : b ∉ written) : finalRest m c b = V m c b := by
  unfold finalRest
  rw [StableHlo.after_of_forall_not_mem (b := Proc.devRef .tc b) _ _ (by simpa only [List.flatten_cons, List.flatten_nil, List.append_nil] using hw),
    Pipeline.withArrays_of_ne _ c _ _ b ha, Pipeline.withR_of_not_mem _ _ _ _ b hb]

theorem rest_arg1 (c : Dev nD) : finalRest m c main_arg1 = m ((c : Thread nD τ).loc main_arg1) :=
  (rest_kept m c main_arg1 (by intro op h; fin_cases h; rw [StableHlo.unary_writes, Finset.mem_singleton]; exact StableHlo.devRef_ne_of_ne (by decide)) (by decide) (by decide)).trans (V_main_arg1 m c)
theorem rest_arg2 (c : Dev nD) : finalRest m c main_arg2 = m ((c : Thread nD τ).loc main_arg2) :=
  (rest_kept m c main_arg2 (by intro op h; fin_cases h; rw [StableHlo.unary_writes, Finset.mem_singleton]; exact StableHlo.devRef_ne_of_ne (by decide)) (by decide) (by decide)).trans (V_main_arg2 m c)
theorem rest_arg3 (c : Dev nD) : finalRest m c main_arg3 = m ((c : Thread nD τ).loc main_arg3) :=
  (rest_kept m c main_arg3 (by intro op h; fin_cases h; rw [StableHlo.unary_writes, Finset.mem_singleton]; exact StableHlo.devRef_ne_of_ne (by decide)) (by decide) (by decide)).trans (V_main_arg3 m c)
theorem rest_arg4 (c : Dev nD) : finalRest m c main_arg4 = m ((c : Thread nD τ).loc main_arg4) :=
  (rest_kept m c main_arg4 (by intro op h; fin_cases h; rw [StableHlo.unary_writes, Finset.mem_singleton]; exact StableHlo.devRef_ne_of_ne (by decide)) (by decide) (by decide)).trans (V_main_arg4 m c)

theorem arr_arg0 (c : Dev nD) : (dats m 0 c).arrAt 0 cfg0.N = m ((c : Thread nD τ).loc main_arg0) :=
  ((dats m 0 c).arrAt_in 0 rfl _).trans ((A_eq m c 0).trans (V_main_arg0 m c))

/-- Every execution ends with the argument arrays as launched and every counter at zero, for any float values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 0).trans (arr_arg0 m c),
    ((h.1 c).2 main_arg1 (Pipeline.mem_restRefs_of main_arg1 (by decide) (by decide))).trans (rest_arg1 m c),
    ((h.1 c).2 main_arg2 (Pipeline.mem_restRefs_of main_arg2 (by decide) (by decide))).trans (rest_arg2 m c),
    ((h.1 c).2 main_arg3 (Pipeline.mem_restRefs_of main_arg3 (by decide) (by decide))).trans (rest_arg3 m c),
    ((h.1 c).2 main_arg4 (Pipeline.mem_restRefs_of main_arg4 (by decide) (by decide))).trans (rest_arg4 m c)⟩, h.2⟩) (run_main m ρ)

/-- `Cert.quiescent_KernelIdeal` (Defs.lean), whatever the launch contents. -/
theorem frame_claim : Cert.quiescent_KernelIdeal := fun m ρ _ => frame_any m ρ

end Cert.Proof.KI

end
-- ==== Proof.Same.lean ====
/-
  The program of the accelerator's words and the program of exact numbers are one text: the types, the kernel, the schedule and
  the host lines of the two are the same terms. So what is proved of one for any float values is proved of the other.
-/
module

public import proofs.«01_k».proof.Proof.KI.Frame
public import proofs.«01_k».proof.Proof.Gen.Kernel
public import proofs.«01_k».proof.Defs

@[expose] public section

noncomputable section

namespace Cert.Proof.Same

open Idealize.ShloMosaic Idealize.ShloMosaic.TcCoe

variable {F : FTy → Type} [FloatOps F]

/-- The two kernels are one function, -/
theorem body_eq : @Cert.Kernel.cc0__fsq_body F _ Cert.Kernel.Gen.facts = @Cert.KernelIdeal.cc0__fsq_body F _ Cert.KernelIdeal.Gen.facts := rfl
/-- the tables of what a region calls one table, -/
theorem defs₀_eq : @Cert.Kernel.defs₀ F _ Cert.Kernel.Gen.facts = @Cert.KernelIdeal.defs₀ F _ Cert.KernelIdeal.Gen.facts :=
  congrArg Defs.onTc (funext fun | 0 => rfl)
theorem pcfgs_eq : Cert.Kernel.pcfgs (F := F) = Cert.KernelIdeal.pcfgs (F := F) := rfl
theorem defs_eq : @Cert.Kernel.defs F _ Cert.Kernel.Gen.facts = @Cert.KernelIdeal.defs F _ Cert.KernelIdeal.Gen.facts :=
  congrArg (Pipeline.defs (Cert.KernelIdeal.pcfgs (F := F))) defs₀_eq
/-- and the two programs one program. -/
theorem main_eq : @Cert.Kernel.main F _ Cert.Kernel.Gen.facts = @Cert.KernelIdeal.main F _ Cert.KernelIdeal.Gen.facts := rfl

/-- `Cert.quiescent_Kernel` (Defs.lean), whatever the launch contents: the other program's frame, at the accelerator's words. -/
theorem frame_claim : Cert.quiescent_Kernel := fun m ρ _ => by
  have h := Cert.Proof.KI.frame_any (F := Bits) m ρ
  rw [← defs_eq, ← main_eq] at h
  exact h

end Cert.Proof.Same

end
-- ==== Proof.Value.Spec.lean ====
/-
  The quantizer of one column, on extended reals: both programs are shown to compute these functions.
-/
module

public import Idealize.ShloMosaic.Lib.Pointwise

@[expose] public section

noncomputable section

namespace Cert.Proof.Spec

open Idealize.ShloMosaic
open scoped BigOperators

/-- Rounding to the nearest integer, ties to even. -/
def rnd (z : EReal) : EReal := Ideal.liftRound Ideal.roundHalfEven z
/-- The bounding function of one coordinate. -/
def bound (hl sh off z : EReal) : EReal := Ideal.tanh (z + sh) * hl - off

/-- The constants of the quantizer, one of each per coordinate. -/
structure Consts where
  hl : Fin 4 → EReal
  sh : Fin 4 → EReal
  off : Fin 4 → EReal
  hw : Fin 4 → EReal
  ba : Fin 4 → EReal
  sc : Fin 4 → EReal

variable (C : Consts) (h : Fin 4 → EReal)

/-- The bounded projection. -/
def res (k : Fin 4) : EReal := bound (C.hl k) (C.sh k) (C.off k) (h k)
/-- The first stage before and after rounding, and its code. -/
def b1 (k : Fin 4) : EReal := bound (C.hl k) (C.sh k) (C.off k) (res C h k)
def c1 (k : Fin 4) : EReal := Ideal.div (rnd (b1 C h k)) (C.hw k)
/-- The first index. -/
def i1 : BitVec 32 := Ideal.fptosi 32 (∑ k : Fin 4, (rnd (b1 C h k) + C.hw k) * C.ba k)
/-- The second stage before and after rounding, and its code. -/
def b2 (k : Fin 4) : EReal := bound (C.hl k) (C.sh k) (C.off k) (Ideal.div (res C h k - c1 C h k) (C.sc k))
def c2 (k : Fin 4) : EReal := Ideal.div (rnd (b2 C h k)) (C.hw k)
/-- The second index. -/
def i2 : BitVec 32 := Ideal.fptosi 32 (∑ k : Fin 4, (rnd (b2 C h k) + C.hw k) * C.ba k)
/-- The quantized coordinate. -/
def quant (k : Fin 4) : EReal := c1 C h k + c2 C h k * C.sc k
/-- One element of the output: a row of the second matrix against the quantized column. -/
def out (w : Fin 4 → EReal) : EReal := ∑ k : Fin 4, w k * quant C h k

/-! ## The reference's own spelling -/

/-- The rounding as the reference writes it. -/
def ste (z : EReal) : EReal := z + (rnd z - z)
variable (b : Fin 4 → EReal)
def resR (k : Fin 4) : EReal := bound (C.hl k) (C.sh k) (C.off k) (h k + b k)
def b1R (k : Fin 4) : EReal := bound (C.hl k) (C.sh k) (C.off k) (Ideal.div (resR C h b k) 1)
def c1R (k : Fin 4) : EReal := Ideal.div (ste (b1R C h b k)) (C.hw k)
def i1R : BitVec 32 := Ideal.fptosi 32 (∑ k : Fin 4, (c1R C h b k * C.hw k + C.hw k) * C.ba k)
def b2R (k : Fin 4) : EReal := bound (C.hl k) (C.sh k) (C.off k) (Ideal.div (resR C h b k - c1R C h b k * 1) (C.sc k))
def c2R (k : Fin 4) : EReal := Ideal.div (ste (b2R C h b k)) (C.hw k)
def i2R : BitVec 32 := Ideal.fptosi 32 (∑ k : Fin 4, (c2R C h b k * C.hw k + C.hw k) * C.ba k)
def quantR (k : Fin 4) : EReal := c1R C h b k * 1 + c2R C h b k * C.sc k
def outR (w : Fin 4 → EReal) (bo : EReal) : EReal := ∑ k : Fin 4, quantR C h b k * w k + bo

/-! ## The two agree where the constants are finite, `hw` is not zero and the biases are zero -/

/-- A bounded value is finite: `tanh` is, at every extended real. -/
theorem bound_real (hl off : ℝ) (sh z : EReal) : ∃ r : ℝ, bound hl sh off z = r := by
  unfold bound
  have ht : ∃ t : ℝ, Ideal.tanh (z + sh) = t := by
    induction z + sh using EReal.rec with
    | bot => exact ⟨-1, show (-1 : EReal) = ((-1 : ℝ) : EReal) by rw [EReal.coe_neg, EReal.coe_one]⟩
    | coe x => exact ⟨Real.tanh x, rfl⟩
    | top => exact ⟨1, rfl⟩
  obtain ⟨t, ht⟩ := ht
  exact ⟨t * hl - off, by rw [ht, EReal.coe_sub, EReal.coe_mul]⟩

theorem rnd_coe (r : ℝ) : rnd r = ((Ideal.roundHalfEven r : ℝ) : EReal) := rfl
theorem ste_coe (r : ℝ) : ste r = rnd r := by
  unfold ste
  rw [rnd_coe, ← EReal.coe_sub, ← EReal.coe_add]
  congr 1; ring
theorem div_one (z : EReal) : Ideal.div z 1 = z := by
  rw [show (1 : EReal) = ((1 : ℝ) : EReal) from rfl, Ideal.div_coe one_ne_zero]
  simp
theorem div_mul (r w : ℝ) (hw : w ≠ 0) : Ideal.div (r : EReal) (w : EReal) * w = r := by
  rw [Ideal.div_coe hw, ← EReal.coe_mul, ← EReal.coe_mul]
  congr 1; field_simp

/-- The constants are finite and the half-widths are not zero. -/
structure Consts.Finite : Prop where
  hl : ∀ k, ∃ r : ℝ, C.hl k = r
  off : ∀ k, ∃ r : ℝ, C.off k = r
  hw : ∀ k, ∃ r : ℝ, C.hw k = r ∧ r ≠ 0

variable (hC : C.Finite)
include hC

theorem bound_finite (k : Fin 4) (sh z : EReal) : ∃ r : ℝ, bound (C.hl k) sh (C.off k) z = r := by
  obtain ⟨a, ha⟩ := hC.hl k
  obtain ⟨o, ho⟩ := hC.off k
  rw [ha, ho]; exact bound_real a o sh z

theorem resR_eq (hb : ∀ k, b k = 0) (k : Fin 4) : resR C h b k = res C h k := by
  unfold resR res; rw [hb, add_zero]
theorem b1R_eq (hb : ∀ k, b k = 0) (k : Fin 4) : b1R C h b k = b1 C h k := by
  unfold b1R b1; rw [resR_eq C h b hC hb, div_one]
theorem c1R_eq (hb : ∀ k, b k = 0) (k : Fin 4) : c1R C h b k = c1 C h k := by
  unfold c1R c1; rw [b1R_eq C h b hC hb]
  obtain ⟨r, hr⟩ := bound_finite C hC k (C.sh k) (res C h k)
  rw [show b1 C h k = r from hr, ste_coe]
theorem b2R_eq (hb : ∀ k, b k = 0) (k : Fin 4) : b2R C h b k = b2 C h k := by
  unfold b2R b2; rw [resR_eq C h b hC hb, c1R_eq C h b hC hb, mul_one]
theorem c2R_eq (hb : ∀ k, b k = 0) (k : Fin 4) : c2R C h b k = c2 C h k := by
  unfold c2R c2; rw [b2R_eq C h b hC hb]
  obtain ⟨r, hr⟩ := bound_finite C hC k (C.sh k) (Ideal.div (res C h k - c1 C h k) (C.sc k))
  rw [show b2 C h k = r from hr, ste_coe]
theorem c1_mul (k : Fin 4) : c1 C h k * C.hw k = rnd (b1 C h k) := by
  obtain ⟨r, hr⟩ := bound_finite C hC k (C.sh k) (res C h k)
  obtain ⟨w, hw, hw0⟩ := hC.hw k
  unfold c1
  rw [show b1 C h k = r from hr, rnd_coe, hw, div_mul _ _ hw0]
theorem c2_mul (k : Fin 4) : c2 C h k * C.hw k = rnd (b2 C h k) := by
  obtain ⟨r, hr⟩ := bound_finite C hC k (C.sh k) (Ideal.div (res C h k - c1 C h k) (C.sc k))
  obtain ⟨w, hw, hw0⟩ := hC.hw k
  unfold c2
  rw [show b2 C h k = r from hr, rnd_coe, hw, div_mul _ _ hw0]

theorem i1R_eq (hb : ∀ k, b k = 0) : i1R C h b = i1 C h := by
  unfold i1R i1
  exact congrArg _ (Finset.sum_congr rfl fun k _ => by rw [c1R_eq C h b hC hb, c1_mul C h hC])
theorem i2R_eq (hb : ∀ k, b k = 0) : i2R C h b = i2 C h := by
  unfold i2R i2
  exact congrArg _ (Finset.sum_congr rfl fun k _ => by rw [c2R_eq C h b hC hb, c2_mul C h hC])
theorem outR_eq (hb : ∀ k, b k = 0) (w : Fin 4 → EReal) : outR C h b w 0 = out C h w := by
  unfold outR out
  rw [add_zero]
  refine Finset.sum_congr rfl fun k _ => ?_
  unfold quantR quant
  rw [c1R_eq C h b hC hb, c2R_eq C h b hC hb, mul_one, mul_comm]

end Cert.Proof.Spec

end
-- ==== Proof.Value.Ref.lean ====
/-
  The reference's two results, on extended reals, read at an index: the quantizer of Spec.lean in the reference's spelling.
-/
module

public import proofs.«01_k».proof.Proof.Gen.ReferenceIdeal.Run
public import proofs.«01_k».proof.Proof.Value.Spec

@[expose] public section

set_option maxRecDepth 16384

noncomputable section

namespace Cert.Proof.Ref

open Cert.ReferenceIdeal Cert.ReferenceIdeal.Gen Cert.ReferenceIdeal.Value
open Idealize.ShloMosaic
open Idealize.ShloMosaic.TcCoe
open scoped BigOperators
open Cert.Proof

/-! ## The reference in stages -/

/-- A vector of four along the last axis of the whole array. -/
def spread (v : FVec Ideal S4 .f32) : FVec Ideal S8x4096x4 .f32 :=
  broadcastInDim S8x4096x4 ![0, 1, 2] bcast_S1x1x4_S8x4096x4_0_1_2 (broadcastInDim S1x1x4 ![2] bcast_S4_S1x1x4_2 v)
/-- A table of four words, as floats. -/
def tab (t : Fin 4 → BitVec 32) : FVec Ideal S4 .f32 := fun i => FloatOps.ofBits .f32 (t (S4.rowMajor i))
def ones : FVec Ideal S4 .f32 := constant S4 .f32 0x3F800000#32
def vbound (th ts : Fin 4 → BitVec 32) (z : FVec Ideal S8x4096x4 .f32) : FVec Ideal S8x4096x4 .f32 :=
  subf (mulf (Host.tanh (addf z (spread (tab ts)))) (spread (tab th))) (spread (tab lit2))
def vste (z : FVec Ideal S8x4096x4 .f32) : FVec Ideal S8x4096x4 .f32 := addf z (subf (Host.roundeven z) z)
def vcode (z : FVec Ideal S8x4096x4 .f32) : FVec Ideal S8x4096x4 .f32 := Host.divf (vste z) (spread (tab lit5))
def vidx (code : FVec Ideal S8x4096x4 .f32) : IVec S8x4096x1 32 :=
  broadcastInDim S8x4096x1 ![0, 1] bcast_S8x4096_S8x4096x1_0_1 (fptosi 32 (Host.reduceAdd
    (mulf (addf (mulf code (spread (tab lit5))) (spread (tab lit5))) (spread (tab lit6))) (constant S_ .f32 0x00000000#32) reducesTo_S8x4096x4_S8x4096_d2 h_S_))

section Stages
variable (x : FVec Ideal S8x512x4096 .f32) (wi : FVec Ideal S512x4 .f32) (bi : FVec Ideal S4 .f32) (wo : FVec Ideal S4x512 .f32) (bo : FVec Ideal S512 .f32)

def vres : FVec Ideal S8x4096x4 .f32 :=
  vbound lit1 lit0 (addf (Host.dotGeneral dot_S8x4096x512_S512x4_S8x4096x4_2_0_01_1_n_n none (transpose S8x4096x512 [0, 2, 1] x transposes_S8x512x4096_S8x4096x512_0_2_1) wi) (spread bi))
def vb1 : FVec Ideal S8x4096x4 .f32 := vbound lit4 lit3 (Host.divf (vres x wi bi) (spread ones))
def vq1 : FVec Ideal S8x4096x4 .f32 := mulf (vcode (vb1 x wi bi)) (spread ones)
def vb2 : FVec Ideal S8x4096x4 .f32 := vbound lit9 lit8 (Host.divf (subf (vres x wi bi) (vq1 x wi bi)) (spread (tab lit7)))
def vq2 : FVec Ideal S8x4096x4 .f32 := mulf (vcode (vb2 x wi bi)) (spread (tab lit7))
def vquant : FVec Ideal S8x4096x4 .f32 :=
  addf (addf (broadcastInDim S8x4096x4 ![] bcast_S_S8x4096x4 (constant S_ .f32 0x00000000#32)) (vq1 x wi bi)) (vq2 x wi bi)
def vout : FVec Ideal S8x512x4096 .f32 :=
  transpose S8x512x4096 [0, 2, 1] (addf (Host.dotGeneral dot_S8x4096x4_S4x512_S8x4096x512_2_0_01_1_n_n none (vquant x wi bi) wo)
    (broadcastInDim S8x4096x512 ![0, 1, 2] bcast_S1x1x512_S8x4096x512_0_1_2 (broadcastInDim S1x1x512 ![2] bcast_S512_S1x1x512_2 bo))) transposes_S8x4096x512_S8x512x4096_0_2_1
def vidxs : IVec S8x4096x2 32 :=
  concatenate S8x4096x2 2 [⟨S8x4096x1, vidx (vcode (vb1 x wi bi))⟩, ⟨S8x4096x1, vidx (vcode (vb2 x wi bi))⟩] concatenates_S8x4096x1_S8x4096x1_S8x4096x2_d2
end Stages

section Same
variable (m : (ℓ : Loc nD τ sig) → Buf (Elt Ideal) ℓ) (c : Dev nD)
theorem out1_eq : res_main_v93 (F := Ideal) m c = vout (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold res_main_v93; rfl
theorem out0_eq : res_main_v88 (F := Ideal) m c = vidxs (m ((c.tc : Thread nD τ).loc main_arg0)) (m ((c.tc : Thread nD τ).loc main_arg1))
    (m ((c.tc : Thread nD τ).loc main_arg2)) := by
  unfold res_main_v88; rfl
end Same

/-! ## The stages at an index -/

theorem lit3_eq : lit3 = lit0 := by funext k; fin_cases k <;> rfl
theorem lit8_eq : lit8 = lit0 := by funext k; fin_cases k <;> rfl
theorem lit4_eq : lit4 = lit1 := by funext k; fin_cases k <;> rfl
theorem lit9_eq : lit9 = lit1 := by funext k; fin_cases k <;> rfl

/-- A word as an extended real. -/
abbrev val (w : BitVec 32) : EReal := Ideal.ofBits .f32 w
/-- The reference's constants. -/
def consts : Spec.Consts where
  hl k := val (lit1 k)
  sh k := val (lit0 k)
  off k := val (lit2 k)
  hw k := val (lit5 k)
  ba k := val (lit6 k)
  sc k := val (lit7 k)

theorem tab_apply (t : Fin 4 → BitVec 32) (k : Fin 4) : tab t (ix1 k) = val (t k) := by
  unfold tab
  rw [show S4.rowMajor (ix1 k) = k from Fin.ext (Shape.rowMajor_val_one _)]
  rfl
theorem spread_apply (v : FVec Ideal S4 .f32) (b : Fin 8) (l : Fin 4096) (k : Fin 4) : spread v (ix3 b l k) = v (ix1 k) := by
  pointwise [spread]
theorem ones_apply (k : Fin 4) : ones (ix1 k) = 1 := by
  pointwise [ones]

variable (x : FVec Ideal S8x512x4096 .f32) (wi : FVec Ideal S512x4 .f32) (bi : FVec Ideal S4 .f32) (wo : FVec Ideal S4x512 .f32) (bo : FVec Ideal S512 .f32)
  (b : Fin 8) (l : Fin 4096) (k : Fin 4)

theorem vbound_apply (th ts : Fin 4 → BitVec 32) (z : FVec Ideal S8x4096x4 .f32) :
    vbound th ts z (ix3 b l k) = Spec.bound (val (th k)) (val (ts k)) (val (lit2 k)) (z (ix3 b l k)) := by
  pointwise [vbound]
  rw [spread_apply, spread_apply, spread_apply, tab_apply, tab_apply, tab_apply]
  rfl
theorem vcode_apply (z : FVec Ideal S8x4096x4 .f32) : vcode z (ix3 b l k) = Ideal.div (Spec.ste (z (ix3 b l k))) (val (lit5 k)) := by
  pointwise [vcode, vste]
  rw [spread_apply, tab_apply]
  rfl
theorem vidx_apply (z : FVec Ideal S8x4096x4 .f32) : vidx z (ix3 b l 0)
    = Ideal.fptosi 32 (∑ k : Fin 4, (z (ix3 b l k) * val (lit5 k) + val (lit5 k)) * val (lit6 k)) := by
  pointwise [vidx]
  refine congrArg _ (Finset.sum_congr rfl fun k _ => ?_)
  rw [spread_apply, spread_apply, tab_apply, tab_apply]

/-- A column of the argument, projected. -/
def proj (b : Fin 8) (l : Fin 4096) (k : Fin 4) : EReal := ∑ r : Fin 512, x (ix3 b r l) * wi (ix2 r k)
/-- A vector of four, by its coordinate. -/
def at4 (v : FVec Ideal S4 .f32) (k : Fin 4) : EReal := v (ix1 k)

theorem vres_apply : vres x wi bi (ix3 b l k) = Spec.resR consts (proj x wi b l) (at4 bi) k := by
  unfold vres
  rw [vbound_apply]
  pointwise
  rw [spread_apply]
  rfl
theorem vb1_apply : vb1 x wi bi (ix3 b l k) = Spec.b1R consts (proj x wi b l) (at4 bi) k := by
  unfold vb1
  rw [vbound_apply, lit3_eq, lit4_eq]
  pointwise
  rw [spread_apply, ones_apply, vres_apply]
  rfl
theorem code1_apply : vcode (vb1 x wi bi) (ix3 b l k) = Spec.c1R consts (proj x wi b l) (at4 bi) k := by
  rw [vcode_apply, vb1_apply]
  rfl
theorem vq1_apply : vq1 x wi bi (ix3 b l k) = Spec.c1R consts (proj x wi b l) (at4 bi) k * 1 := by
  unfold vq1
  rw [mulf_apply, code1_apply, spread_apply, ones_apply]
  rfl
theorem vb2_apply : vb2 x wi bi (ix3 b l k) = Spec.b2R consts (proj x wi b l) (at4 bi) k := by
  unfold vb2
  rw [vbound_apply, lit8_eq, lit9_eq]
  pointwise
  rw [spread_apply, tab_apply, vres_apply, vq1_apply]
  rfl
theorem code2_apply : vcode (vb2 x wi bi) (ix3 b l k) = Spec.c2R consts (proj x wi b l) (at4 bi) k := by
  rw [vcode_apply, vb2_apply]
  rfl
theorem vquant_apply : vquant x wi bi (ix3 b l k) = Spec.quantR consts (proj x wi b l) (at4 bi) k := by
  pointwise [vquant, vq2]
  rw [vq1_apply, code2_apply, spread_apply, tab_apply]
  rfl
theorem vout_apply (r : Fin 512) : vout x wi bi wo bo (ix3 b r l)
    = Spec.outR consts (proj x wi b l) (at4 bi) (fun k => wo (ix2 k r)) (bo (ix1 r)) := by
  pointwise [vout]
  unfold Spec.outR
  simp only [vquant_apply]
theorem vidxs_apply_0 : vidxs x wi bi (ix3 b l 0) = Spec.i1R consts (proj x wi b l) (at4 bi) := by
  pointwise [vidxs]
  rw [vidx_apply]
  simp only [code1_apply]
  rfl
theorem vidxs_apply_1 : vidxs x wi bi (ix3 b l 1) = Spec.i2R consts (proj x wi b l) (at4 bi) := by
  pointwise [vidxs]
  rw [vidx_apply]
  simp only [code2_apply]
  rfl

end Cert.Proof.Ref

end
-- ==== Proof.Value.Tiles.lean ====
/-
  One tile of the kernel, on extended reals, read at a column: the quantizer of Spec.lean.
-/
module

public import proofs.«01_k».proof.Proof.KI.Point
public import proofs.«01_k».proof.Proof.Value.Spec

@[expose] public section

set_option maxRecDepth 16384

noncomputable section

namespace Cert.Proof.KI

open Cert.KernelIdeal Cert.KernelIdeal.Gen
open Idealize.ShloMosaic
open scoped BigOperators
open Cert.Proof

/-- The constants as six columns. -/
def consts (hl sh off hw ba sc : FVec Ideal S4x1 .f32) : Spec.Consts where
  hl k := hl (ix2 k 0)
  sh k := sh (ix2 k 0)
  off k := off (ix2 k 0)
  hw k := hw (ix2 k 0)
  ba k := ba (ix2 k 0)
  sc k := sc (ix2 k 0)
/-- A column of the tile, projected. -/
def proj (x : FVec Ideal S1x512x1024 .f32) (win : FVec Ideal S4x512 .f32) (l : Fin 1024) (k : Fin 4) : EReal :=
  ∑ r : Fin 512, win (ix2 k r) * x (ix3 0 r l)

variable (hl sh off hw ba sc : FVec Ideal S4x1 .f32) (x : FVec Ideal S1x512x1024 .f32) (win : FVec Ideal S4x512 .f32)
  (wout : FVec Ideal S512x4 .bf16) (l : Fin 1024) (k : Fin 4)

theorem pay31_apply : k0_pay31 (F := Ideal) hl sh off x win (ix2 k l) = Spec.res (consts hl sh off hw ba sc) (proj x win l) k := by
  pointwise [k0_pay31]
  rfl
theorem pay32_apply : k0_pay32 (F := Ideal) hl sh off x win (ix2 k l) = Spec.rnd (Spec.b1 (consts hl sh off hw ba sc) (proj x win l) k) := by
  pointwise [k0_pay32]
  rw [pay31_apply hl sh off hw ba sc]
  rfl
theorem pay33_apply : k0_pay33 (F := Ideal) hl sh off hw x win (ix2 k l) = Spec.c1 (consts hl sh off hw ba sc) (proj x win l) k := by
  pointwise [k0_pay33]
  rw [pay32_apply hl sh off hw ba sc]
  rfl
theorem pay37_apply (v : FVec Ideal S4x1024 .f32) : k0_pay37 (F := Ideal) hl off v (ix2 k l)
    = Spec.rnd (v (ix2 k l) * hl (ix2 k 0) - off (ix2 k 0)) := by
  pointwise [k0_pay37]
  rfl
theorem tanh2_apply : tanh2 (F := Ideal) hl sh off hw sc x win (ix2 k l)
    = Ideal.tanh (Ideal.div (Spec.res (consts hl sh off hw ba sc) (proj x win l) k - Spec.c1 (consts hl sh off hw ba sc) (proj x win l) k) (sc (ix2 k 0)) + sh (ix2 k 0)) := by
  unfold tanh2
  pointwise [k0_pay36]
  rw [pay31_apply hl sh off hw ba sc, pay33_apply hl sh off hw ba sc]
theorem round2_apply : k0_pay37 (F := Ideal) hl off (tanh2 (F := Ideal) hl sh off hw sc x win) (ix2 k l) = Spec.rnd (Spec.b2 (consts hl sh off hw ba sc) (proj x win l) k) := by
  rw [pay37_apply, tanh2_apply hl sh off hw ba sc]
  rfl

theorem idx1_apply : idx1 (F := Ideal) hl sh off hw ba x win (ix3 0 0 l) = Spec.i1 (consts hl sh off hw ba sc) (proj x win l) := by
  unfold idx1
  pointwise [k0_pay34]
  unfold Spec.i1
  refine congrArg _ (Finset.sum_congr rfl fun k _ => ?_)
  rw [pay32_apply hl sh off hw ba sc]
  rfl
theorem idx2_apply : idx2 (F := Ideal) hl sh off hw ba sc x win (ix3 0 0 l) = Spec.i2 (consts hl sh off hw ba sc) (proj x win l) := by
  unfold idx2
  pointwise [k0_pay38]
  unfold Spec.i2
  refine congrArg _ (Finset.sum_congr rfl fun k _ => ?_)
  rw [round2_apply hl sh off hw ba sc]
  rfl
theorem outTile_apply (r : Fin 512) : outTile (F := Ideal) hl sh off hw sc x win wout (ix3 0 r l) = Spec.out (consts hl sh off hw ba sc) (proj x win l) fun k => wout (ix2 r k) := by
  unfold outTile
  pointwise [k0_pay39, k0_pay35]
  unfold Spec.out
  refine Finset.sum_congr rfl fun k _ => ?_
  rw [pay33_apply hl sh off hw ba sc, round2_apply hl sh off hw ba sc]
  rfl

end Cert.Proof.KI

end
-- ==== Proof.KI.Final.lean ====
/-
  What the two results hold at the end, in terms of what the points compute; and the blocks staged for a point, in terms of the
  arguments.
-/
module

public import proofs.«01_k».proof.Proof.KI.Frame
public import Idealize.ShloMosaic.Lib.Pipeline.ValueKit
public import Idealize.ShloMosaic.Lib.Pointwise
public import Idealize.ShloMosaic.Lib.StableHlo.RunRead

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-! ## The blocks' places -/

theorem index_0 : ∀ t : Fin grid0.N, win0_0.index t = ![t.val, 0, 0] := by decide +kernel
theorem index_1 : ∀ t : Fin grid0.N, win0_1.index t = ![0, 0] := by decide +kernel
theorem index_2 : ∀ t : Fin grid0.N, win0_2.index t = ![0, 0] := by decide +kernel
theorem index_3 : ∀ t : Fin grid0.N, win0_3.index t = ![0, 0] := by decide +kernel
theorem index_4 : ∀ t : Fin grid0.N, win0_4.index t = ![t.val, 0, 0] := by decide +kernel

/-! ## The results -/

/-- The second result is what the points leave in it. -/
theorem final_out (c : Dev nD) : finalRest m c main_v3_1 = outG m c := by
  unfold finalRest
  rw [StableHlo.after_of_forall_not_mem (b := Proc.devRef .tc main_v3_1) _ _ (by
      intro op h; fin_cases h; rw [StableHlo.unary_writes, Finset.mem_singleton]; exact StableHlo.devRef_ne_of_ne (by decide)),
    Pipeline.withArrays_of_ne _ c _ _ main_v3_1 (by decide), Pipeline.withR_of_mem _ _ _ _ main_v3_1 (by decide), leaves_out]

/-- The array of indices as the region leaves it. -/
def idxAll (c : Dev nD) : Buf (Elt F) ((c : Thread nD τ).loc main_v3_0) := fun y : S8x2x4096.Idx =>
  idxG m c ((y 0).cast N_0.symm) (ix3 0 (y 1) (y 2))

theorem arr_idx (c : Dev nD) : (dats m 0 c).arrAt 4 cfg0.N = idxAll m c := by
  refine (dats m 0 c).arrAt_eq_of_covers 4 _ (by decide +kernel) fun t hf y => ?_
  blk_simp
  rw [after_4]
  have ht : t.val < 8 := Nat.lt_of_lt_of_eq t.isLt N_0
  have key : ∀ z : S8x2x4096.Idx, (z 0).val = t.val → (z 1).val = (y 1).val → (z 2).val = (y 2).val →
      idxAll m c z = idxG m c t y := fun z h0 h1 h2 => by
    unfold idxAll
    rw [show (z 0).cast N_0.symm = t from Fin.ext h0]
    refine congrArg _ ?_
    funext a
    fin_cases a
    · exact Fin.ext (by have : (y 0).val < 1 := (y 0).isLt; show 0 = (y 0).val; omega)
    · exact Fin.ext h1
    · exact Fin.ext h2
  refine (key _ ?_ ?_ ?_).symm
  · have : (y 0).val < 1 := (y 0).isLt
    blk_simp [index_4]
  · blk_simp [index_4]
  · blk_simp [index_4]

/-- The first result is its transpose. -/
theorem final_idx (c : Dev nD) (y : S8x4096x2.Idx) : (finalRest m c main_v4 : S8x4096x2.Idx → Elt F .i32) y = idxAll m c (ix3 (y 0) (y 2) (y 1)) := by
  unfold finalRest
  simp only [List.flatten_cons, List.flatten_nil, List.append_nil]
  after_reads_simp
  rw [show Pipeline.withArrays spec0 c (Pipeline.withR (V0 m c) written c (leaves m c)) (fun w => (dats m 0 c).arrAt w cfg0.N) (Proc.devRef .tc main_v3_0)
    = idxAll m c from (Pipeline.withArrays_arr spec0 (by decide) c _ _ 4).trans (arr_idx m c)]
  pointwise

/-! ## The staged blocks -/

theorem blkX_apply (c : Dev nD) (t : Fin cfg0.N) (r : Fin 512) (l : Fin 4096) :
    blkX m c t (ix3 0 r l) = (m ((c : Thread nD τ).loc main_arg0) : S8x512x4096.Idx → Elt F .f32) (ix3 (t.cast N_0) r l) := by
  unfold blkX
  blk_simp [iblk]
  rw [V_main_arg0]
  refine congrArg _ ?_
  funext a
  fin_cases a
  · refine Fin.ext ?_; blk_simp [index_0]; rfl
  · refine Fin.ext ?_; blk_simp [index_0]; rfl
  · refine Fin.ext ?_; blk_simp [index_0]; rfl

theorem V_v0 (c : Dev nD) : V m c main_v0 = transpose S4x512 [1, 0] (m ((c : Thread nD τ).loc main_arg1)) transposes_S512x4_S4x512_1_0 := by
  unfold V V0
  simp only [List.flatten_cons, List.flatten_nil, List.append_nil]
  after_reads_simp
theorem V_v2 (c : Dev nD) : V m c main_v2
    = truncf .bf16 (transpose S512x4 [1, 0] (m ((c : Thread nD τ).loc main_arg3)) transposes_S4x512_S512x4_1_0 : FVec F S512x4 .f32) bitsLt_bf16_f32 := by
  unfold V V0
  simp only [List.flatten_cons, List.flatten_nil, List.append_nil]
  after_reads_simp
theorem V_cst (c : Dev nD) : V m c main_cst = fun i => FloatOps.ofBits .f32 (lit0 (S4x6.rowMajor i)) := by
  unfold V V0
  simp only [List.flatten_cons, List.flatten_nil, List.append_nil]
  after_reads_simp
  rfl

theorem blkIn_apply (c : Dev nD) (t : Fin cfg0.N) (k : Fin 4) (r : Fin 512) :
    blkIn m c t (ix2 k r) = (m ((c : Thread nD τ).loc main_arg1) : S512x4.Idx → Elt F .f32) (ix2 r k) := by
  unfold blkIn
  blk_simp [iblk]
  rw [show (win0_1.blk t).view.emb (ix2 k r) = (ix2 k r : S4x512.Idx) from by
    funext a
    fin_cases a
    · refine Fin.ext ?_; blk_simp [index_1]
    · refine Fin.ext ?_; blk_simp [index_1]]
  rw [V_v0]
  pointwise
theorem blkOut_apply (c : Dev nD) (t : Fin cfg0.N) (k : Fin 4) (r : Fin 512) :
    blkOut m c t (ix2 r k) = FloatOps.truncf .bf16 bitsLt_bf16_f32 ((m ((c : Thread nD τ).loc main_arg3) : S4x512.Idx → Elt F .f32) (ix2 k r)) := by
  unfold blkOut
  blk_simp [iblk]
  rw [show (win0_2.blk t).view.emb (ix2 r k) = (ix2 r k : S512x4.Idx) from by
    funext a
    fin_cases a
    · refine Fin.ext ?_; blk_simp [index_2]
    · refine Fin.ext ?_; blk_simp [index_2]]
  rw [V_v2]
  pointwise
theorem blkTab_apply (c : Dev nD) (t : Fin cfg0.N) (k : Fin 4) (n : Fin 6) :
    blkTab m c t (ix2 k n) = FloatOps.ofBits .f32 (lit0 (S4x6.rowMajor (ix2 k n))) := by
  unfold blkTab
  blk_simp [iblk]
  rw [show (win0_3.blk t).view.emb (ix2 k n) = (ix2 k n : S4x6.Idx) from by
    funext a
    fin_cases a
    · refine Fin.ext ?_; blk_simp [index_3]
    · refine Fin.ext ?_; blk_simp [index_3]]
  rw [V_cst]

end Cert.Proof.KI

end
-- ==== Proof.Value.Words.lean ====
/-
  The constants of the two programs: the reference's six tables of four words are the columns of the kernel's table, and they are
  finite.
-/
module

public import proofs.«01_k».proof.Proof.Value.Ref
public import proofs.«01_k».proof.Proof.Value.Tiles
public import proofs.«01_k».proof.Proof.KI.Final

@[expose] public section

set_option maxRecDepth 16384

noncomputable section

namespace Cert.Proof

open Idealize.ShloMosaic
open Idealize.ShloMosaic.TcCoe

namespace Ref
/-- A word whose exponent field is not all ones is a real number. -/
theorem val_real (w : BitVec 32) (h : (w.extractLsb' 23 8).toNat ≠ 255) : ∃ r : ℝ, val w = r := by
  unfold val Ideal.ofBits Ideal.ieee
  simp only
  rw [if_neg (by simpa using h)]
  split
  · exact ⟨_, rfl⟩
  · exact ⟨_, rfl⟩
/-- One whose exponent field is not zero either is not zero. -/
theorem val_real_ne (w : BitVec 32) (h : (w.extractLsb' 23 8).toNat ≠ 255) (h0 : (w.extractLsb' 23 8).toNat ≠ 0) :
    ∃ r : ℝ, val w = r ∧ r ≠ 0 := by
  unfold val Ideal.ofBits Ideal.ieee
  simp only
  rw [if_neg (by simpa using h), if_neg h0]
  refine ⟨_, rfl, ?_⟩
  refine mul_ne_zero (mul_ne_zero ?_ ?_) ?_
  · split <;> norm_num
  · positivity
  · positivity

theorem consts_finite : consts.Finite where
  hl k := val_real _ (by revert k; decide)
  off k := val_real _ (by revert k; decide)
  hw k := val_real_ne _ (by revert k; decide) (by revert k; decide)
end Ref

namespace KI
open Cert.KernelIdeal Cert.KernelIdeal.Gen
variable (m : (ℓ : Loc nD τ sig) → Buf (Elt Ideal) ℓ)

theorem place (k : Fin 4) (n : Fin 6) : S4x6.rowMajor (ix2 k n) = ⟨k.val * 6 + n.val, show k.val * 6 + n.val < 24 by have := k.isLt; have := n.isLt; omega⟩ :=
  Fin.ext (Shape.rowMajor_val_two _)

theorem col_apply {F : FTy → Type} (X5 : S4x6.Idx → Elt F .f32) (n : Fin 6) (k : Fin 4) : col X5 n (ix2 k 0) = X5 (ix2 k n) := by
  unfold col
  refine congrArg _ ?_
  funext a
  fin_cases a
  · exact Fin.ext (by show 0 + 1 * k.val = k.val; omega)
  · exact Fin.ext (by show n.val + 1 * 0 = n.val; omega)

theorem tab_word (c : Dev nD) (t : Fin cfg0.N) (n : Fin 6) (k : Fin 4) : col (blkTab m c t) n (ix2 k 0)
    = Ref.val (lit0 ⟨k.val * 6 + n.val, show k.val * 6 + n.val < 24 by have := k.isLt; have := n.isLt; omega⟩) := by
  rw [col_apply, blkTab_apply, place]
  rfl

theorem consts_eq (c : Dev nD) (t : Fin cfg0.N) :
    consts (col (blkTab m c t) 0) (col (blkTab m c t) 1) (col (blkTab m c t) 2) (col (blkTab m c t) 3) (col (blkTab m c t) 4) (col (blkTab m c t) 5)
      = Ref.consts := by
  unfold consts Ref.consts
  congr 1
  · funext k; rw [tab_word]; fin_cases k <;> rfl
  · funext k; rw [tab_word]; fin_cases k <;> rfl
  · funext k; rw [tab_word]; fin_cases k <;> rfl
  · funext k; rw [tab_word]; fin_cases k <;> rfl
  · funext k; rw [tab_word]; fin_cases k <;> rfl
  · funext k; rw [tab_word]; fin_cases k <;> rfl
end KI

end Cert.Proof

end
-- ==== Proof.Value.Kernel.lean ====
/-
  The kernel's two results, on extended reals, element by element: the quantizer of Spec.lean at the reference's constants.
-/
module

public import proofs.«01_k».proof.Proof.Value.Words

@[expose] public section

set_option maxRecDepth 16384

noncomputable section

namespace Cert.Proof.KI

open Cert.KernelIdeal Cert.KernelIdeal.Gen
open Idealize.ShloMosaic
open Idealize.ShloMosaic.TcCoe
open scoped BigOperators

theorem xCols_apply {F : FTy → Type} (X2 : S1x512x4096.Idx → Elt F .f32) (l : Fin 4096) (r : Fin 512) :
    xCols X2 ⟨l.val / 1024, by omega⟩ (ix3 0 r ⟨l.val % 1024, by omega⟩) = X2 (ix3 0 r l) := by
  unfold xCols
  refine congrArg _ ?_
  funext a
  fin_cases a
  · rfl
  · exact Fin.ext (by show 0 + 1 * r.val = r.val; omega)
  · exact Fin.ext (by show 1024 * (l.val / 1024) + 1 * (l.val % 1024) = l.val; omega)
theorem winAll_apply {F : FTy → Type} (X3 : S4x512.Idx → Elt F .f32) (k : Fin 4) (r : Fin 512) : winAll X3 (ix2 k r) = X3 (ix2 k r) := by
  unfold winAll
  refine congrArg _ ?_
  funext a
  fin_cases a
  · exact Fin.ext (by show 0 + 1 * k.val = k.val; omega)
  · exact Fin.ext (by show 0 + 1 * r.val = r.val; omega)
theorem woutAll_apply {F : FTy → Type} (X4 : S512x4.Idx → Elt F .bf16) (k : Fin 4) (r : Fin 512) : woutAll X4 (ix2 r k) = X4 (ix2 r k) := by
  unfold woutAll
  refine congrArg _ ?_
  funext a
  fin_cases a
  · exact Fin.ext (by show 0 + 1 * r.val = r.val; omega)
  · exact Fin.ext (by show 0 + 1 * k.val = k.val; omega)
theorem tileIx_ix3 (r : Fin 512) (l : Fin 1024) : tileIx r l = ix3 0 r l := by
  funext a; fin_cases a <;> rfl
theorem rowIx_ix3 (l : Fin 1024) : rowIx l = ix3 0 0 l := by
  funext a; fin_cases a <;> rfl

variable (m : (ℓ : Loc nD τ sig) → Buf (Elt Ideal) ℓ) (c : Dev nD)

/-- The arguments, as arrays of extended reals. -/
def argX : S8x512x4096.Idx → EReal := m ((c : Thread nD τ).loc main_arg0)
def argWi : S512x4.Idx → EReal := m ((c : Thread nD τ).loc main_arg1)
def argWo : S4x512.Idx → EReal := m ((c : Thread nD τ).loc main_arg3)

/-- The projection of a column of a tile is that of the column of the argument. -/
theorem proj_eq (t : Fin cfg0.N) (l : Fin 4096) :
    proj (xCols (blkX m c t) ⟨l.val / 1024, by omega⟩) (winAll (blkIn m c t)) ⟨l.val % 1024, by omega⟩
      = Ref.proj (argX m c) (argWi m c) (t.cast N_0) l := by
  funext k
  unfold proj Ref.proj
  refine Finset.sum_congr rfl fun r _ => ?_
  rw [xCols_apply, winAll_apply, blkX_apply, blkIn_apply, mul_comm]
  rfl

theorem outG_apply (b : Fin 8) (r : Fin 512) (l : Fin 4096) :
    outG m c (ix3 b r l) = Spec.out Ref.consts (Ref.proj (argX m c) (argWi m c) b l) fun k => argWo m c (ix2 k r) := by
  show outAtCol (blkX m c (b.cast N_0.symm)) (blkIn m c (b.cast N_0.symm)) (blkOut m c (b.cast N_0.symm)) (blkTab m c (b.cast N_0.symm)) r l = _
  unfold outAtCol outCols
  rw [outAt_eq, tileIx_ix3, outTile_apply _ _ _ _ (col (blkTab m c (b.cast N_0.symm)) 4), consts_eq, proj_eq]
  refine congrArg _ ?_
  funext k
  rw [woutAll_apply, blkOut_apply]
  rfl
/-- The two rows of a tile, in the one spelling. -/
theorem idxRow_0 (X2 : S1x512x4096.Idx → Elt Ideal .f32) (X3 : S4x512.Idx → Elt Ideal .f32) (X5 : S4x6.Idx → Elt Ideal .f32) (j : Fin 4) :
    idxRow X2 X3 X5 0 j = idx1 (col X5 0) (col X5 1) (col X5 2) (col X5 3) (col X5 4) (xCols X2 j) (winAll X3) := idx1At_eq _ _ _ _ _ _ _ j
theorem idxRow_1 (X2 : S1x512x4096.Idx → Elt Ideal .f32) (X3 : S4x512.Idx → Elt Ideal .f32) (X5 : S4x6.Idx → Elt Ideal .f32) (j : Fin 4) :
    idxRow X2 X3 X5 1 j = idx2 (col X5 0) (col X5 1) (col X5 2) (col X5 3) (col X5 4) (col X5 5) (xCols X2 j) (winAll X3) := idx2At_eq _ _ _ _ _ _ _ _ j

theorem idxAll_apply_0 (b : Fin 8) (l : Fin 4096) :
    idxAll m c (ix3 b 0 l) = Spec.i1 Ref.consts (Ref.proj (argX m c) (argWi m c) b l) := by
  show idxRow (blkX m c (b.cast N_0.symm)) (blkIn m c (b.cast N_0.symm)) (blkTab m c (b.cast N_0.symm)) 0 ⟨l.val / 1024, by omega⟩ (rowIx ⟨l.val % 1024, by omega⟩) = _
  rw [idxRow_0, rowIx_ix3, idx1_apply _ _ _ _ _ (col (blkTab m c (b.cast N_0.symm)) 5), consts_eq, proj_eq]
  rfl
theorem idxAll_apply_1 (b : Fin 8) (l : Fin 4096) :
    idxAll m c (ix3 b 1 l) = Spec.i2 Ref.consts (Ref.proj (argX m c) (argWi m c) b l) := by
  show idxRow (blkX m c (b.cast N_0.symm)) (blkIn m c (b.cast N_0.symm)) (blkTab m c (b.cast N_0.symm)) 1 ⟨l.val / 1024, by omega⟩ (rowIx ⟨l.val % 1024, by omega⟩) = _
  rw [idxRow_1, rowIx_ix3, idx2_apply, consts_eq, proj_eq]
  rfl

end Cert.Proof.KI

end
-- ==== Proof.Value.Equal.lean ====
/-
  The value claim: with both biases zero, the kernel and the reference end with the same indices and the same output.
-/
module

public import proofs.«01_k».proof.Defs
public import proofs.«01_k».proof.Proof.Value.Kernel

@[expose] public section

set_option maxRecDepth 16384

noncomputable section

namespace Cert.Proof.Equal

open Cert.KernelIdeal Cert.KernelIdeal.Gen
open Idealize.ShloMosaic
open Idealize.ShloMosaic.TcCoe
open Idealize.SL.Sem

/-- The shape relations the precondition states. -/
theorem pre_facts : Cert.Pre_zero_biases.Facts where
  bcast_S_S4 := by decide +kernel
  bcast_S_S512 := by decide +kernel

/-- A comparison that comes out one compares equal values. -/
theorem eq_of_cmp (a b : EReal) (h : Ideal.cmp .oeq a b = 1#1) : a = b := by
  unfold Ideal.cmp at h
  by_contra hne
  simp [hne] at h

section Pre
variable (m : (ℓ : Loc nD τ sig) → Buf (Elt Ideal) ℓ) (h : Cert.Pre_KernelIdeal_zero_biases (hPre_zero_biases := pre_facts) m) (c : Dev nD)
include h
/-- Under the precondition the two biases are zero. -/
theorem bias_in (k : Fin 4) : (show S4.Idx → EReal from m ((c.tc : Thread nD τ).loc main_arg2)) (ix1 k) = (0 : EReal) :=
  (eq_of_cmp _ _ (congrFun (h c).1 (ix1 k))).trans Ideal.ofBits_zero_f32
theorem bias_out (r : Fin 512) : (show S512.Idx → EReal from m ((c.tc : Thread nD τ).loc main_arg4)) (ix1 r) = (0 : EReal) :=
  (eq_of_cmp _ _ (congrFun (h c).2 (ix1 r))).trans Ideal.ofBits_zero_f32
end Pre

section Results
variable (x : FVec Ideal S8x512x4096 .f32) (wi : FVec Ideal S512x4 .f32) (bi : FVec Ideal S4 .f32) (wo : FVec Ideal S4x512 .f32) (bo : FVec Ideal S512 .f32)
  (hbi : ∀ k, bi (ix1 k) = 0)
include hbi
/-- The reference's results with zero biases, in the kernel's spelling. -/
theorem ref_out (hbo : ∀ r, bo (ix1 r) = 0) (b : Fin 8) (r : Fin 512) (l : Fin 4096) :
    Ref.vout x wi bi wo bo (ix3 b r l) = Spec.out Ref.consts (Ref.proj x wi b l) fun k => wo (ix2 k r) := by
  rw [Ref.vout_apply, hbo, Spec.outR_eq _ _ (Ref.at4 bi) Ref.consts_finite hbi]
theorem ref_idx_0 (b : Fin 8) (l : Fin 4096) : Ref.vidxs x wi bi (ix3 b l 0) = Spec.i1 Ref.consts (Ref.proj x wi b l) := by
  rw [Ref.vidxs_apply_0, Spec.i1R_eq _ _ (Ref.at4 bi) Ref.consts_finite hbi]
theorem ref_idx_1 (b : Fin 8) (l : Fin 4096) : Ref.vidxs x wi bi (ix3 b l 1) = Spec.i2 Ref.consts (Ref.proj x wi b l) := by
  rw [Ref.vidxs_apply_1, Spec.i2R_eq _ _ (Ref.at4 bi) Ref.consts_finite hbi]
end Results

section Ends
variable (m : (ℓ : Loc nD τ sig) → Buf (Elt Ideal) ℓ) (c : Dev nD)
  (bi : FVec Ideal S4 .f32) (bo : FVec Ideal S512 .f32) (hbi : ∀ k, bi (ix1 k) = 0) (hbo : ∀ r, bo (ix1 r) = 0)
include hbi
/-- The kernel's first result is the reference's. -/
theorem indices_eq : Ref.vidxs (KI.argX m c) (KI.argWi m c) bi = KI.finalRest m c main_v4 := by
  funext y
  have hk := KI.final_idx m c y
  obtain ⟨b, l, q, rfl⟩ : ∃ (b : Fin 8) (l : Fin 4096) (q : Fin 2), y = ix3 b l q := ⟨y 0, y 1, y 2, by funext a; fin_cases a <;> rfl⟩
  refine Eq.trans ?_ hk.symm
  show _ = KI.idxAll m c (ix3 b q l)
  obtain rfl | rfl : q = 0 ∨ q = 1 := by clear hk; revert q; decide
  · rw [ref_idx_0 _ _ _ hbi, KI.idxAll_apply_0]
  · rw [ref_idx_1 _ _ _ hbi, KI.idxAll_apply_1]
include hbo
/-- The kernel's second result is the reference's. -/
theorem output_eq : Ref.vout (KI.argX m c) (KI.argWi m c) bi (KI.argWo m c) bo = KI.finalRest m c main_v3_1 := by
  rw [KI.final_out]
  funext y
  obtain ⟨b, r, l, rfl⟩ : ∃ (b : Fin 8) (r : Fin 512) (l : Fin 4096), y = ix3 b r l := ⟨y 0, y 1, y 2, by funext a; fin_cases a <;> rfl⟩
  rw [ref_out _ _ _ _ _ hbi hbo, KI.outG_apply]
end Ends

/-- The kernel's run, with both results. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = KI.finalRest m c main_v4
      ∧ r.2.mem ((c.tc : Thread nD τ).loc main_v3_1) = KI.finalRest m c main_v3_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).2 main_v4 (Pipeline.mem_restRefs_of main_v4 (by decide) (by decide)),
    (h.1 c).2 main_v3_1 (Pipeline.mem_restRefs_of main_v3_1 (by decide) (by decide)),
    ((h.1 c).1 0).trans (KI.arr_arg0 m c),
    ((h.1 c).2 main_arg1 (Pipeline.mem_restRefs_of main_arg1 (by decide) (by decide))).trans (KI.rest_arg1 m c),
    ((h.1 c).2 main_arg2 (Pipeline.mem_restRefs_of main_arg2 (by decide) (by decide))).trans (KI.rest_arg2 m c),
    ((h.1 c).2 main_arg3 (Pipeline.mem_restRefs_of main_arg3 (by decide) (by decide))).trans (KI.rest_arg3 m c),
    ((h.1 c).2 main_arg4 (Pipeline.mem_restRefs_of main_arg4 (by decide) (by decide))).trans (KI.rest_arg4 m c)⟩) (KI.run_main m ρ)

/-- `Cert.algebraic_KernelIdeal_ReferenceIdeal_pre_zero_biases` (Defs.lean). -/
theorem algebraic : Cert.algebraic_KernelIdeal_ReferenceIdeal_pre_zero_biases (hPre_zero_biases := pre_facts) := fun m g m' g' hpre hargs =>
  ⟨fun c => KI.finalRest m c main_v4, fun c => KI.finalRest m c main_v3_1, kernel_run m g,
    (θ_run Cert.ReferenceIdeal.defs _ _).mono (fun r h c => by
      obtain ⟨h0, h1, hrest⟩ := h c
      obtain ⟨e0, e1, e2, e3, e4⟩ := hargs c
      refine ⟨h0.trans ?_, h1.trans ?_, hrest⟩
      · rw [Ref.out0_eq, e0, e1, e2]
        exact indices_eq m c _ (bias_in m hpre c)
      · rw [Ref.out1_eq, e0, e1, e2, e3, e4]
        exact output_eq m c _ _ (bias_in m hpre c) (bias_out m hpre c)) (Cert.ReferenceIdeal.Value.run (F := Ideal) m' g')⟩

end Cert.Proof.Equal

end
-- ==== Proof.lean ====
/-
  The certificate: the witnesses of what the programs and the precondition state, then each claim.
-/
module

public import proofs.«01_k».proof.Defs
public import proofs.«01_k».proof.Proof.Gen.ReferenceIdeal.Run
public import Idealize.ShloMosaic.Lib.Quiescent
public import proofs.«01_k».proof.Proof.KI.Frame
public import proofs.«01_k».proof.Proof.Same
public import proofs.«01_k».proof.Proof.Value.Equal

@[expose] public section

noncomputable section

namespace Cert.Proof

open Idealize.ShloMosaic Idealize.ShloMosaic.TcCoe Idealize.SL.Sem

/-- `Cert.quiescent_ReferenceIdeal` (Defs.lean): the reference is host lines alone; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
/-- The same under the precondition, which it does not need. -/
theorem frame_reference_pre : Cert.quiescent_ReferenceIdeal_pre_zero_biases (hPre_zero_biases := Equal.pre_facts) := fun m ρ _ =>
  frame_reference m ρ trivial
/-- `Cert.quiescent_KernelIdeal_pre_zero_biases` (Defs.lean): the frame needs no precondition. -/
theorem frame_kernel_pre : Cert.quiescent_KernelIdeal_pre_zero_biases (hPre_zero_biases := Equal.pre_facts) := fun m ρ _ => KI.frame_any m ρ

theorem claim : Cert.Claim :=
  ⟨Cert.Kernel.Gen.facts, Cert.KernelIdeal.Gen.facts, Cert.ReferenceIdeal.Gen.facts, Equal.pre_facts,
    Same.frame_claim, KI.frame_claim, frame_kernel_pre, frame_reference, frame_reference_pre, trivial, Equal.algebraic⟩

end Cert.Proof

end
